-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x100000 : Shape := ⟨2, ![128, 100000]⟩
abbrev S128x1 : Shape := ⟨2, ![128, 1]⟩
abbrev S128x1696 : Shape := ⟨2, ![128, 1696]⟩
abbrev S2x128x2048 : Shape := ⟨3, ![2, 128, 2048]⟩
abbrev S1 : Shape := ⟨1, ![1]⟩
abbrev S2 : Shape := ⟨1, ![2]⟩
abbrev S_ : Shape := ⟨0, ![]⟩
abbrev S1x128x2048 : Shape := ⟨3, ![1, 128, 2048]⟩
abbrev S128x2048 : Shape := ⟨2, ![128, 2048]⟩
abbrev S128x352 : Shape := ⟨2, ![128, 352]⟩
abbrev S128 : Shape := ⟨1, ![128]⟩
abbrev S1x128x1 : Shape := ⟨3, ![1, 128, 1]⟩
abbrev S1x1x1 : Shape := ⟨3, ![1, 1, 1]⟩
abbrev S128x128 : Shape := ⟨2, ![128, 128]⟩
abbrev S128x4096 : Shape := ⟨2, ![128, 4096]⟩

abbrev nBuf : Space → Nat
  | .hbm => 6
  | .vmem => 9
  | .smem => 2
  | _ => 0

abbrev bufTy : (tb : Table) → Fin (tcTables nBuf tb) → BufTy
  | .hbm, ⟨0, _⟩ => ⟨S128x100000, .f32⟩
  | .hbm, ⟨1, _⟩ => ⟨S128x1, .f32⟩
  | .hbm, ⟨2, _⟩ => ⟨S128x1696, .f32⟩
  | .hbm, ⟨3, _⟩ => ⟨S128x1, .i32⟩
  | .hbm, ⟨4, _⟩ => ⟨S128x1, .f32⟩
  | .hbm, ⟨5, _⟩ => ⟨S128x100000, .f32⟩
  | .local _ .vmem, ⟨0, _⟩ => ⟨S128x1696, .f32⟩
  | .local _ .vmem, ⟨1, _⟩ => ⟨S128x1, .f32⟩
  | .local _ .vmem, ⟨2, _⟩ => ⟨S128x1, .i32⟩
  | .local _ .vmem, ⟨3, _⟩ => ⟨S128x1, .f32⟩
  | .local _ .vmem, ⟨4, _⟩ => ⟨S2x128x2048, .f32⟩
  | .local _ .vmem, ⟨5, _⟩ => ⟨S128x1, .f32⟩
  | .local _ .vmem, ⟨6, _⟩ => ⟨S128x1, .i32⟩
  | .local _ .vmem, ⟨7, _⟩ => ⟨S128x4096, .f32⟩
  | .local _ .vmem, ⟨8, _⟩ => ⟨S128x4096, .f32⟩
  | .local _ .smem, ⟨0, _⟩ => ⟨S1, .i32⟩
  | .local _ .smem, ⟨1, _⟩ => ⟨S1, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc0_scratch2 : Ref sig .tc := ⟨.smem, 0, rfl⟩
abbrev cc0_scratch3 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![49], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c48_i32 : BitVec 32 := 48#32
  let v24 : BitVec 1 := Scalar.cmpi .slt arg0 c48_i32
  let v25 : BitVec 32 := Scalar.extui v24
  let c0_i32_17 : BitVec 32 := 0#32
  let v26 : BitVec 1 := Scalar.cmpi .ne v25 c0_i32_17
  v26

def k0_off1 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off2 (i : grid0.Coords) : Fin 3 → Nat :=
  let arg0 : BitVec 32 := BitVec.ofNat 32 (i 0).val
  let c2_i32 : BitVec 32 := 2#32
  let v0 : BitVec 32 := Scalar.remsi arg0 c2_i32
  let c0_i32_18 : BitVec 32 := 0#32
  let c0_i32_19 : BitVec 32 := 0#32
  ![v0.toNat, 0, 0]
def k0_off3 (i : grid0.Coords) : Fin 2 → Nat :=
  let c0_i32_20 : BitVec 32 := 0#32
  let arg0 : BitVec 32 := BitVec.ofNat 32 (i 0).val
  let c2048_i32 : BitVec 32 := 2048#32
  let v27 : BitVec 32 := Scalar.muli arg0 c2048_i32
  ![0, v27.toNat]
def k0_cond4 (i : grid0.Coords) : BitVec 1 :=
  let arg0 : BitVec 32 := BitVec.ofNat 32 (i 0).val
  let c48_i32 : BitVec 32 := 48#32
  let v14 : BitVec 1 := Scalar.cmpi .slt arg0 c48_i32
  let v15 : BitVec 32 := Scalar.extui v14
  let c0_i32_6 : BitVec 32 := 0#32
  let v16 : BitVec 1 := Scalar.cmpi .ne v15 c0_i32_6
  v16

def k0_off4 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off5 (i : grid0.Coords) : Fin 3 → Nat :=
  let arg0 : BitVec 32 := BitVec.ofNat 32 (i 0).val
  let c2_i32 : BitVec 32 := 2#32
  let v0 : BitVec 32 := Scalar.remsi arg0 c2_i32
  let c0_i32_39 : BitVec 32 := 0#32
  let c0_i32_40 : BitVec 32 := 0#32
  ![v0.toNat, 0, 0]
def k0_off6 (i : grid0.Coords) : Fin 2 → Nat :=
  let c0_i32_41 : BitVec 32 := 0#32
  let arg0 : BitVec 32 := BitVec.ofNat 32 (i 0).val
  let c2048_i32_38 : BitVec 32 := 2048#32
  let v75 : BitVec 32 := Scalar.muli arg0 c2048_i32_38
  ![0, v75.toNat]
def k0_cond5 (i : grid0.Coords) : BitVec 1 :=
  let arg0 : BitVec 32 := BitVec.ofNat 32 (i 0).val
  let c1_i32_9 : BitVec 32 := 1#32
  let v18 : BitVec 32 := Scalar.addi arg0 c1_i32_9
  let c48_i32_10 : BitVec 32 := 48#32
  let v19 : BitVec 1 := Scalar.cmpi .slt v18 c48_i32_10
  let v20 : BitVec 32 := Scalar.extui v19
  let c0_i32_11 : BitVec 32 := 0#32
  let v21 : BitVec 1 := Scalar.cmpi .ne v20 c0_i32_11
  v21

def k0_cond6 (i : grid0.Coords) : BitVec 1 :=
  let arg0 : BitVec 32 := BitVec.ofNat 32 (i 0).val
  let c1_i32_38 : BitVec 32 := 1#32
  let v75 : BitVec 32 := Scalar.addi arg0 c1_i32_38
  let c48_i32_40 : BitVec 32 := 48#32
  let v77 : BitVec 1 := Scalar.cmpi .slt v75 c48_i32_40
  let v78 : BitVec 32 := Scalar.extui v77
  let c0_i32_41 : BitVec 32 := 0#32
  let v79 : BitVec 1 := Scalar.cmpi .ne v78 c0_i32_41
  v79

def k0_off7 (i : grid0.Coords) : Fin 1 → Nat :=
  let c1_i32_39 : BitVec 32 := 1#32
  let arg0 : BitVec 32 := BitVec.ofNat 32 (i 0).val
  let c2_i32 : BitVec 32 := 2#32
  let v0 : BitVec 32 := Scalar.remsi arg0 c2_i32
  let v76 : BitVec 32 := Scalar.subi c1_i32_39 v0
  ![v76.toNat]
def k0_off8 (i : grid0.Coords) : Fin 3 → Nat :=
  let c1_i32_39 : BitVec 32 := 1#32
  let arg0 : BitVec 32 := BitVec.ofNat 32 (i 0).val
  let c2_i32 : BitVec 32 := 2#32
  let v0 : BitVec 32 := Scalar.remsi arg0 c2_i32
  let v76 : BitVec 32 := Scalar.subi c1_i32_39 v0
  let c0_i32_45 : BitVec 32 := 0#32
  let c0_i32_46 : BitVec 32 := 0#32
  ![v76.toNat, 0, 0]
def k0_off9 (i : grid0.Coords) : Fin 2 → Nat :=
  let c0_i32_47 : BitVec 32 := 0#32
  let arg0 : BitVec 32 := BitVec.ofNat 32 (i 0).val
  let c1_i32_38 : BitVec 32 := 1#32
  let v75 : BitVec 32 := Scalar.addi arg0 c1_i32_38
  let c2048_i32_44 : BitVec 32 := 2048#32
  let v81 : BitVec 32 := Scalar.muli v75 c2048_i32_44
  ![0, v81.toNat]
def k0_off10 (i : grid0.Coords) : Fin 3 → Nat :=
  let arg0 : BitVec 32 := BitVec.ofNat 32 (i 0).val
  let c2_i32 : BitVec 32 := 2#32
  let v0 : BitVec 32 := Scalar.remsi arg0 c2_i32
  let v28 : Index := Scalar.indexCast v0
  let c0_17 : Index := 0#32
  let c0_18 : Index := 0#32
  ![v28.toNat, 0, 0]
def k0_cond9 (i : grid0.Coords) : BitVec 1 :=
  let arg0 : BitVec 32 := BitVec.ofNat 32 (i 0).val
  let c48_i32 : BitVec 32 := 48#32
  let v14 : BitVec 1 := Scalar.cmpi .slt arg0 c48_i32
  let v15 : BitVec 32 := Scalar.extui v14
  let c0_i32_6 : BitVec 32 := 0#32
  let v16 : BitVec 1 := Scalar.cmpi .ne v15 c0_i32_6
  v16

def k0_off11 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off12 (i : grid0.Coords) : Fin 3 → Nat :=
  let arg0 : BitVec 32 := BitVec.ofNat 32 (i 0).val
  let c2_i32 : BitVec 32 := 2#32
  let v0 : BitVec 32 := Scalar.remsi arg0 c2_i32
  let c0_i32_9 : BitVec 32 := 0#32
  let c0_i32_10 : BitVec 32 := 0#32
  ![v0.toNat, 0, 0]
def k0_off13 (i : grid0.Coords) : Fin 2 → Nat :=
  let c0_i32_11 : BitVec 32 := 0#32
  let arg0 : BitVec 32 := BitVec.ofNat 32 (i 0).val
  let c2048_i32 : BitVec 32 := 2048#32
  let v18 : BitVec 32 := Scalar.muli arg0 c2048_i32
  ![0, v18.toNat]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1696 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S128x100000 : Shape := ⟨2, ![128, 100000]⟩
abbrev S128x1 : Shape := ⟨2, ![128, 1]⟩
abbrev S100000x128 : Shape := ⟨2, ![100000, 128]⟩
abbrev S_ : Shape := ⟨0, ![]⟩
abbrev S1x128 : Shape := ⟨2, ![1, 128]⟩
abbrev S99999x128 : Shape := ⟨2, ![99999, 128]⟩
abbrev S1 : Shape := ⟨1, ![1]⟩
abbrev S128 : Shape := ⟨1, ![128]⟩

abbrev nBuf : Space → Nat
  | .hbm => 31
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x1, .f32⟩
  | .hbm, ⟨2, _⟩ => ⟨S100000x128, .f32⟩
  | .hbm, ⟨3, _⟩ => ⟨S100000x128, .f32⟩
  | .hbm, ⟨4, _⟩ => ⟨S_, .f32⟩
  | .hbm, ⟨5, _⟩ => ⟨S_, .f32⟩
  | .hbm, ⟨6, _⟩ => ⟨S100000x128, .f32⟩
  | .hbm, ⟨7, _⟩ => ⟨S1x128, .f32⟩
  | .hbm, ⟨8, _⟩ => ⟨S100000x128, .f32⟩
  | .hbm, ⟨9, _⟩ => ⟨S100000x128, .i1⟩
  | .hbm, ⟨10, _⟩ => ⟨S99999x128, .i1⟩
  | .hbm, ⟨11, _⟩ => ⟨S99999x128, .i1⟩
  | .hbm, ⟨12, _⟩ => ⟨S99999x128, .i1⟩
  | .hbm, ⟨13, _⟩ => ⟨S_, .i32⟩
  | .hbm, ⟨14, _⟩ => ⟨S1, .i32⟩
  | .hbm, ⟨15, _⟩ => ⟨S100000x128, .i1⟩
  | .hbm, ⟨16, _⟩ => ⟨S100000x128, .f32⟩
  | .hbm, ⟨17, _⟩ => ⟨S100000x128, .f32⟩
  | .hbm, ⟨18, _⟩ => ⟨S100000x128, .i1⟩
  | .hbm, ⟨19, _⟩ => ⟨S_, .f32⟩
  | .hbm, ⟨20, _⟩ => ⟨S100000x128, .f32⟩
  | .hbm, ⟨21, _⟩ => ⟨S100000x128, .f32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S128x100000, .f32⟩
  | .hbm, ⟨26, _⟩ => ⟨S128x1, .f32⟩
  | .hbm, ⟨27, _⟩ => ⟨S_, .f32⟩
  | .hbm, ⟨28, _⟩ => ⟨S128x1, .f32⟩
  | .hbm, ⟨29, _⟩ => ⟨S128x1, .f32⟩
  | .hbm, ⟨30, _⟩ => ⟨S128x100000, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_call0_cst : Ref sig .tc := ⟨.hbm, 4, rfl⟩
abbrev main_call0_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.ScanNames.lean ====
/-
  The scan call's own transfers, in canonical names: block `b` of the scanned array (128 rows, 2048 columns),
  slot `s` of the double buffer, slot `s`'s semaphore. Every slice the body takes is one of these.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Regions
public import proofs.«01_k».proof.Proof.Gen.KernelIdeal.Points
public import Idealize.ShloMosaic.Lib.Pipeline.RegionArraysD
public import Idealize.ShloMosaic.Lib.Pipeline.FrameBody
public import Idealize.ShloMosaic.Lib.Ring
public import Idealize.ShloMosaic.Lib.Affine
public import Idealize.ShloMosaic.Lib.Tactic

@[expose] public section

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline library's, beside the counters the body's own transfers ride on. -/
local notation "𝕄" => MT nD τ sig Unit (Elt F) ℕ (Pipeline.UD sig nD τ) ℕ

theorem entails_of_eq {P Q : sProp 𝕄} (e : P = Q) : P ⊢ Q := e ▸ .rfl

abbrev aM : Memref sig .tc .hbm S128x100000 .f32 := Memref.whole main_arg0
abbrev bufM : Memref sig .tc .vmem S2x128x2048 .f32 := Memref.whole cc0_scratch0

abbrev grpOff (b : Fin 48) : Fin 2 → Nat := ![0, 2048 * b.val]
theorem grpOff_inb (b : Fin 48) : ∀ a, grpOff b a + S128x2048.size a ≤ S128x100000.size a := by
  have := b.isLt; intro a; fin_cases a
  · show 0 + 128 ≤ 128; omega
  · show 2048 * b.val + 2048 ≤ 100000; omega
abbrev slotOff (s : Fin 2) : Fin 3 → Nat := ![s.val, 0, 0]
theorem slotOff_inb (s : Fin 2) : ∀ a, slotOff s a + S1x128x2048.size a ≤ S2x128x2048.size a := by
  have := s.isLt; intro a; fin_cases a
  · show s.val + 1 ≤ 2; omega
  · show 0 + 128 ≤ 128; omega
  · show 0 + 2048 ≤ 2048; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Block `b` of the scanned array: its columns `2048 b` to `2048 b + 2047`. -/
def grp (b : Fin 48) : Memref sig .tc .hbm S128x2048 .f32 :=
  aM.slice (Rect.unit (s := S128x100000) (grpOff b) S128x2048.size (grpOff_inb b)) (fun _ => rfl)
/-- Slot `s` of the double buffer. -/
def rslot (s : Fin 2) : Memref sig .tc .vmem S128x2048 .f32 :=
  (bufM.slice (Rect.unit (s := S2x128x2048) (slotOff s) S1x128x2048.size (slotOff_inb s)) (fun _ => rfl)).squeeze S128x2048 squeezes_S1x128x2048_S128x2048
/-- Slot `s`'s semaphore. -/
def csm (s : Fin 2) : DmaSems sig S_ := (cc0_scratch4.slice (Rect.unit (s := S2) (semOff s) S1.size (semOff_inb s))).squeeze S_ squeezes_S1_S_

instance (s : Fin 2) : ClosedOff (slotOff s) := ⟨slotOff s, rfl⟩
instance (b : Fin 48) : ClosedOff (grpOff b) := ⟨grpOff b, rfl⟩

/-! ## The body's offsets at point `t`, and its conditions -/

theorem off1_eq : ∀ t : Fin grid0.N, k0_off1 (grid0.coords t) = semOff (Ring.sl 2 t.val) := by decide +kernel
theorem off2_eq : ∀ t : Fin grid0.N, k0_off2 (grid0.coords t) = slotOff (Ring.sl 2 t.val) := by decide +kernel
theorem off3_eq : ∀ t : Fin grid0.N, t.val < 48 → k0_off3 (grid0.coords t) = grpOff (Ring.bk 48 t.val) := by decide +kernel
theorem off7_eq : ∀ t : Fin grid0.N, k0_off7 (grid0.coords t) = semOff (Ring.sl 2 (t.val + 1)) := by decide +kernel
theorem off8_eq : ∀ t : Fin grid0.N, k0_off8 (grid0.coords t) = slotOff (Ring.sl 2 (t.val + 1)) := by decide +kernel
theorem off9_eq : ∀ t : Fin grid0.N, t.val + 1 < 48 → k0_off9 (grid0.coords t) = grpOff (Ring.bk 48 (t.val + 1)) := by decide +kernel
theorem off10_eq : ∀ t : Fin grid0.N, k0_off10 (grid0.coords t) = slotOff (Ring.sl 2 t.val) := by decide +kernel

theorem cond1_iff : ∀ t : Fin grid0.N, k0_cond1 (grid0.coords t) = 1#1 ↔ t.val = 0 := by decide +kernel
theorem cond2_iff : ∀ t : Fin grid0.N, k0_cond2 (grid0.coords t) = 1#1 ↔ t.val < 48 := by decide +kernel
theorem cond4_iff : ∀ t : Fin grid0.N, k0_cond4 (grid0.coords t) = 1#1 ↔ t.val < 48 := by decide +kernel
theorem cond5_iff : ∀ t : Fin grid0.N, k0_cond5 (grid0.coords t) = 1#1 ↔ t.val + 1 < 48 := by decide +kernel
theorem cond6_iff : ∀ t : Fin grid0.N, k0_cond6 (grid0.coords t) = 1#1 ↔ t.val + 1 < 48 := by decide +kernel
theorem cond9_iff : ∀ t : Fin grid0.N, k0_cond9 (grid0.coords t) = 1#1 ↔ t.val < 48 := by decide +kernel

instance (t : Fin grid0.N) : ClosedOff (k0_off10 (grid0.coords t)) := ⟨slotOff (Ring.sl 2 t.val), off10_eq t⟩

private theorem csm_congr {off : Fin 1 → Nat} {s : Fin 2} (e : off = semOff s) (hh) :
    (cc0_scratch4.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 2} (e : off = slotOff s) (hh hs) :
    (bufM.slice (Rect.unit (s := S2x128x2048) off S1x128x2048.size hh) hs).squeeze S128x2048 squeezes_S1x128x2048_S128x2048 = rslot s :=
  congrArg (fun M : Memref sig .tc .vmem S1x128x2048 .f32 => M.squeeze S128x2048 squeezes_S1x128x2048_S128x2048) (Memref.slice_unit_congr _ e _ _ _ _)
private theorem grp_congr {off : Fin 2 → Nat} {b : Fin 48} (e : off = grpOff b) (hh hs) :
    aM.slice (Rect.unit (s := S128x100000) off S128x2048.size hh) hs = grp b :=
  Memref.slice_unit_congr _ e _ (grpOff_inb b) _ (fun _ => rfl)

section Canon
variable (t : Fin grid0.N)

-- the first point's issue, and every point's waits: slot, semaphore and block of the point
@[sl_canon] theorem sem1 (hh) : (cc0_scratch4.slice (Rect.unit (s := S2) (k0_off1 (grid0.coords t)) S1.size hh)).squeeze S_ squeezes_S1_S_ = csm (Ring.sl 2 t.val) := csm_congr (off1_eq t) _
@[sl_canon] theorem sem4 (hh) : (cc0_scratch4.slice (Rect.unit (s := S2) (k0_off4 (grid0.coords t)) S1.size hh)).squeeze S_ squeezes_S1_S_ = csm (Ring.sl 2 t.val) := csm_congr (off1_eq t) _
@[sl_canon] theorem sem11 (hh) : (cc0_scratch4.slice (Rect.unit (s := S2) (k0_off11 (grid0.coords t)) S1.size hh)).squeeze S_ squeezes_S1_S_ = csm (Ring.sl 2 t.val) := csm_congr (off1_eq t) _
@[sl_canon] theorem sem7 (hh) : (cc0_scratch4.slice (Rect.unit (s := S2) (k0_off7 (grid0.coords t)) S1.size hh)).squeeze S_ squeezes_S1_S_ = csm (Ring.sl 2 (t.val + 1)) := csm_congr (off7_eq t) _
@[sl_canon] theorem slot2 (hh hs) : (bufM.slice (Rect.unit (s := S2x128x2048) (k0_off2 (grid0.coords t)) S1x128x2048.size hh) hs).squeeze S128x2048 squeezes_S1x128x2048_S128x2048 = rslot (Ring.sl 2 t.val) := rslot_congr (off2_eq t) _ _
@[sl_canon] theorem slot5 (hh hs) : (bufM.slice (Rect.unit (s := S2x128x2048) (k0_off5 (grid0.coords t)) S1x128x2048.size hh) hs).squeeze S128x2048 squeezes_S1x128x2048_S128x2048 = rslot (Ring.sl 2 t.val) := rslot_congr (off2_eq t) _ _
@[sl_canon] theorem slot12 (hh hs) : (bufM.slice (Rect.unit (s := S2x128x2048) (k0_off12 (grid0.coords t)) S1x128x2048.size hh) hs).squeeze S128x2048 squeezes_S1x128x2048_S128x2048 = rslot (Ring.sl 2 t.val) := rslot_congr (off2_eq t) _ _
@[sl_canon] theorem slot8 (hh hs) : (bufM.slice (Rect.unit (s := S2x128x2048) (k0_off8 (grid0.coords t)) S1x128x2048.size hh) hs).squeeze S128x2048 squeezes_S1x128x2048_S128x2048 = rslot (Ring.sl 2 (t.val + 1)) := rslot_congr (off8_eq t) _ _
@[sl_canon] theorem grp3 (h : t.val < 48) (hh hs) : aM.slice (Rect.unit (s := S128x100000) (k0_off3 (grid0.coords t)) S128x2048.size hh) hs = grp (Ring.bk 48 t.val) := grp_congr (off3_eq t h) _ _
@[sl_canon] theorem grp6 (h : t.val < 48) (hh hs) : aM.slice (Rect.unit (s := S128x100000) (k0_off6 (grid0.coords t)) S128x2048.size hh) hs = grp (Ring.bk 48 t.val) := grp_congr (off3_eq t h) _ _
@[sl_canon] theorem grp13 (h : t.val < 48) (hh hs) : aM.slice (Rect.unit (s := S128x100000) (k0_off13 (grid0.coords t)) S128x2048.size hh) hs = grp (Ring.bk 48 t.val) := grp_congr (off3_eq t h) _ _
@[sl_canon] theorem grp9 (h : t.val + 1 < 48) (hh hs) : aM.slice (Rect.unit (s := S128x100000) (k0_off9 (grid0.coords t)) S128x2048.size hh) hs = grp (Ring.bk 48 (t.val + 1)) := grp_congr (off9_eq t h) _ _

end Canon

/-! ## The pieces: a block home, a slot held, a slot's semaphore, a slot in flight -/

section Pieces
variable (c : Dev nD) (XA : Buf (Elt F) (aM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
/-- Block `b` home: held on its elements at the array's contents. -/
abbrev homeP (b : Fin 48) : sProp 𝕄 := (grp b).view.loc (c : Thread nD τ) ↦[(grp b).view.set]{fullShare} XA
/-- Block `b`'s words as a slot's payload. -/
abbrev payload (b : Fin 48) : S128x2048.Idx → Elt F .f32 := ReadAs.same.apply ((grp b).view.read (Elt F) XA)
/-- What block `b`'s transfer leaves in slot `s` over prior contents `f`. -/
abbrev landed (s : Fin 2) (b : Fin 48) (f : Buf (Elt F) ((rslot s).view.loc (c : Thread nD τ))) : Buf (Elt F) ((rslot s).view.loc (c : Thread nD τ)) :=
  (rslot s).view.writes (Elt F) f [⟨Rect.whole S128x2048, payload c XA b⟩]
/-- A block's transfer moves this many units on its semaphore. -/
abbrev NN : ℕ := 32768
/-- Slot `s` in flight with block `b`, issued over `f`. -/
abbrev flightP (s : Fin 2) (b : Fin 48) (f : Buf (Elt F) ((rslot s).view.loc (c : Thread nD τ))) : sProp 𝕄 :=
  Transfers.Flight countersEmb (c : Thread nD τ) (SemLoc.dma (csm s).sem) () NN iprop(slotP c s (landed c XA s b f) ∗ homeP c XA b)

/-- The homes with blocks up to `k - 1` and from `k + 1`: block `k + 1`, about to go out, beside the rest. -/
theorem homes_here (k : ℕ) (hk : k + 1 < 48) :
    bigSep (Ring.homeSet 1 k) (homeP c XA) = iprop(homeP c XA (Ring.bk 48 (k + 1)) ∗ bigSep ((Ring.homeSet 1 k).erase (Ring.bk 48 (k + 1))) (homeP c XA)) := by
  conv_lhs => rw [Ring.homeSet_out 1 k hk, bigSep_insert (Ring.bkL_not_mem_erase 1 k)]
  rfl
theorem homes_next (k : ℕ) (hk : k + 1 < 48) :
    bigSep (Ring.homeSet 1 (k + 1)) (homeP c XA) = iprop(homeP c XA (Ring.bk 48 k) ∗ bigSep ((Ring.homeSet 1 k).erase (Ring.bk 48 (k + 1))) (homeP c XA)) := by
  conv_lhs => rw [Ring.homeSet_succ 1 k hk, bigSep_insert (Ring.bk_not_mem_erase 1 k (by omega) (by decide))]
  rfl
/-- Every block home is block `k` beside the others. -/
theorem homes_all (k : ℕ) (hk : k < 48) :
    bigSep Finset.univ (homeP c XA) = iprop(homeP c XA (Ring.bk 48 k) ∗ bigSep (Ring.homeSet 1 k) (homeP c XA)) := by
  have e : (Finset.univ : Finset (Fin 48)) = insert (Ring.bk 48 k) (Ring.homeSet 1 k) := by
    ext b
    simp only [Finset.mem_univ, Finset.mem_insert, Ring.mem_homeSet, true_iff, Fin.ext_iff, Ring.bk_val hk]
    omega
  have h1 : Ring.bk 48 k ∉ Ring.homeSet (NB := 48) 1 k := by
    simp only [Ring.mem_homeSet, Fin.ext_iff, Ring.bk_val hk]; omega
  rw [e, bigSep_insert h1]; rfl

end Pieces

end Cert.KernelIdeal.Own

end
-- ==== Proof.ScanStep.lean ====
/-
  What one point of the scan call computes, as a function of the values it reads: the block, the tail columns, the
  threshold, and the state the call carries from point to point.
-/
module

public import proofs.«01_k».proof.Proof.Gen.KernelIdeal.Skeleton

@[expose] public section

noncomputable section

namespace Cert.KernelIdeal.Own

open Cert.KernelIdeal Cert.KernelIdeal.Gen
open Idealize.ShloMosaic

variable {F : FTy → Type} [FloatOps F]

/-- The position in the block, one per row: how many of the block's columns lie below the threshold. -/
def posOf (v22 : Vec F S128x1 .f32) (v37 : IVec S128x2048 1) (v40 : FVec F S128x2048 .f32) (v43 : Vec F S128x1 .f32) : IVec S128x1 32 :=
  let v79 := k0_pay10 (F := F)
  let v110 := k0_pay15 v22 v37 v40 v43
  let v113 := k0_pay16 v40
  let v114 := k0_pay17 v40
  let v124 := k0_pay18 v22 v37 v40 v43
  let v161 := k0_pay23 v40 v113 v114
  let v162 := k0_pay24 v40
  let v174 := k0_pay25 v22 v37 v40 v43 v79 v110 v113 v114 v124
  let v222 := k0_pay32 v22 v37 v40 v43 v79 v161 v162 v174
  let v225 := k0_pay33 v40 v161 v162
  let v270 := k0_pay39 v22 v37 v40 v43 v79 v222 v225
  let v273 := k0_pay40 v40 v225
  let v274 := k0_pay41 v40
  let v275 := k0_pay42 v40 v79
  let v318 := k0_pay47 v22 v37 v40 v43 v79 v270 v273 v274 v275
  let v326 := k0_pay48 v40 v43 v79 v273 v274
  k0_pay49 v22 v37 v318 v326

/-- The block's entry at that position, one per row. -/
def lpOf (v22 : Vec F S128x1 .f32) (v31 : FVec F S128x2048 .f32) (v37 : IVec S128x2048 1) (v40 : FVec F S128x2048 .f32) (v43 : Vec F S128x1 .f32) : FVec F S128x1 .f32 :=
  let v79 := k0_pay10 (F := F)
  let v110 := k0_pay15 v22 v37 v40 v43
  let v113 := k0_pay16 v40
  let v114 := k0_pay17 v40
  let v124 := k0_pay18 v22 v37 v40 v43
  let v161 := k0_pay23 v40 v113 v114
  let v162 := k0_pay24 v40
  let v174 := k0_pay25 v22 v37 v40 v43 v79 v110 v113 v114 v124
  let v222 := k0_pay32 v22 v37 v40 v43 v79 v161 v162 v174
  let v225 := k0_pay33 v40 v161 v162
  let v270 := k0_pay39 v22 v37 v40 v43 v79 v222 v225
  let v273 := k0_pay40 v40 v225
  let v274 := k0_pay41 v40
  let v275 := k0_pay42 v40 v79
  let v318 := k0_pay47 v22 v37 v40 v43 v79 v270 v273 v274 v275
  let v326 := k0_pay48 v40 v43 v79 v273 v274
  let v334 := k0_pay49 v22 v37 v318 v326
  let v368 := k0_pay50 v22 v31 v37 v318 v326
  let v372 := k0_pay51 v31
  let v374 := k0_pay52 v22 v37 v318 v326
  let v412 := k0_pay53 v31 v334 v368 v372 v374
  let v420 := k0_pay54 v31 v334
  let v467 := k0_pay55 v31 v334 v412 v420
  k0_pay56 v31 v334 v467 (iota .tc S128x128 32 [1] iota_S128x128_d1_w32)

/-- Whether some row finds its position in this block. -/
def hitOf (v45 : IVec S128x1 1) (v47 : IVec S128x1 32) : BitVec 1 :=
  Scalar.cmpi .ne (Scalar.extui (Scalar.cmpf .ogt (k0_pay7 (F := F) v45 v47) (Scalar.ofBits .f32 0x00000000#32)) : BitVec 32) 0#32

/-- What the scan carries: each row's running sum, its position so far (100000: not found), the entry there; whether
every row is done; whether a transfer is under way. -/
structure ScanSt (F : FTy → Type) where
  carry : FVec F S128x1 .f32
  idx : IVec S128x1 32
  lp : FVec F S128x1 .f32
  flag : BitVec 1
  out : Bool

/-- The state the first point starts from. -/
def scan0 : ScanSt F := ⟨k0_pay1, k0_pay2, k0_pay3, 0#1, false⟩

/-- One point's update, the rows not all done: `r` the thresholds, `tail` the last columns, `blk` the point's block. -/
def scanStep (i : grid0.Coords) (r : Vec F S128x1 .f32) (tail : Vec F S128x1696 .f32) (blk : Vec F S1x128x2048 .f32)
    (s : ScanSt F) (more : Bool) : ScanSt F :=
  let arg0 : BitVec 32 := BitVec.ofNat 32 (i 0).val
  let v31 := k0_pay57 arg0 tail blk
  let v37 := k0_pay58 arg0
  let v40 := k0_pay59 arg0 tail blk
  let v44 := k0_pay60 arg0 tail blk s.carry
  let v45 := k0_pay61 arg0 r tail blk s.carry
  let v47 := k0_pay62 (F := F) s.idx
  { carry := k0_pay5 v44
    idx := if hitOf (F := F) v45 v47 = 1#1 then k0_pay8 (F := F) i v45 v47 (posOf r v37 v40 s.carry) 2048#32 s.idx else s.idx
    lp := if hitOf (F := F) v45 v47 = 1#1 then k0_pay9 v45 v47 (lpOf r v31 v37 v40 s.carry) s.lp else s.lp
    flag := Scalar.cmpf .ogt (k0_pay6 r v44) (Scalar.ofBits .f32 0x00000000#32)
    out := more }

/-- The block at the last point is not read. -/
theorem pay57_last (tail : Vec F S128x1696 .f32) (blk blk' : Vec F S1x128x2048 .f32) :
    k0_pay57 48#32 tail blk = k0_pay57 48#32 tail blk' := by
  unfold k0_pay57
  dsimp only
  rw [show Scalar.cmpi .eq (48#32 : BitVec 32) 48#32 = 1#1 from by decide]
  rfl

theorem pay59_last (tail : Vec F S128x1696 .f32) (blk blk' : Vec F S1x128x2048 .f32) :
    k0_pay59 48#32 tail blk = k0_pay59 48#32 tail blk' := by
  unfold k0_pay59; rw [pay57_last tail blk blk']

set_option backward.isDefEq.respectTransparency false in
theorem pay60_last (tail : Vec F S128x1696 .f32) (blk blk' : Vec F S1x128x2048 .f32) (v43 : Vec F S128x1 .f32) :
    k0_pay60 48#32 tail blk v43 = k0_pay60 48#32 tail blk' v43 := by
  unfold k0_pay60; rw [pay59_last tail blk blk']

theorem pay61_last (r : Vec F S128x1 .f32) (tail : Vec F S128x1696 .f32) (blk blk' : Vec F S1x128x2048 .f32) (v43 : Vec F S128x1 .f32) :
    k0_pay61 48#32 r tail blk v43 = k0_pay61 48#32 r tail blk' v43 := by
  unfold k0_pay61; rw [pay60_last tail blk blk']

theorem scanStep_last (i : grid0.Coords) (hi : (i 0).val = 48) (r : Vec F S128x1 .f32) (tail : Vec F S128x1696 .f32)
    (blk blk' : Vec F S1x128x2048 .f32) (s : ScanSt F) (more : Bool) :
    scanStep i r tail blk s more = scanStep i r tail blk' s more := by
  unfold scanStep
  simp only [hi, show BitVec.ofNat 32 48 = 48#32 from rfl, pay61_last r tail blk blk', pay60_last tail blk blk', pay59_last tail blk blk',
    pay57_last tail blk blk']

end Cert.KernelIdeal.Own

end
-- ==== Proof.ScanBody.lean ====
/-
  One grid point of the scan call's body.
-/
module

public import proofs.«01_k».proof.Proof.ScanNames
public import proofs.«01_k».proof.Proof.ScanStep
public import Idealize.ShloMosaic.Lib.VecWindow

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Body
variable (c : Dev nD) (XA : Buf (Elt F) (aM.view.loc (c : Thread nD τ)))
  (arg2 : Memref sig .tc .vmem S128x1696 .f32) (harg2 : arg2.IsWhole)
  (arg3 : Memref sig .tc .vmem S128x1 .f32) (harg3 : arg3.IsWhole)
  (arg4 : Memref sig .tc .vmem S128x1 .i32) (harg4 : arg4.IsWhole)
  (arg5 : Memref sig .tc .vmem S128x1 .f32) (harg5 : arg5.IsWhole)

abbrev arg7 : Memref sig .tc .vmem S128x1 .f32 := Memref.whole cc0_scratch1
abbrev arg8 : Memref sig .tc .smem S1 .i32 := Memref.whole cc0_scratch2
abbrev arg9 : Memref sig .tc .smem S1 .i32 := Memref.whole cc0_scratch3

abbrev bodyG (t : Fin grid0.N) : Prog (TpuEff nD τ sig (Elt F) Λ₀ .tc) PUnit :=
  cc0__scan_kernel (grid0.coords t) aM (Memref.isWhole_whole _) arg2 harg2 arg3 harg3 arg4 harg4 arg5 harg5 bufM (Memref.isWhole_whole _)
    arg7 (Memref.isWhole_whole _) arg8 (Memref.isWhole_whole _) arg9 (Memref.isWhole_whole _) cc0_scratch4

/-- A buffer held whole, at the contents that read `X`. -/
abbrev atP {s : Shape} {e : EltTy} {sp : Space} (M : Memref sig .tc sp s e) (X : s.Idx → Elt F e) : sProp 𝕄 :=
  M.view.loc (c : Thread nD τ) ↦[M.view.set]{fullShare} M.view.rep X

theorem atP_of_read {s : Shape} {e : EltTy} {sp : Space} (M : Memref sig .tc sp s e) (X : s.Idx → Elt F e) (g) (h : M.view.read (Elt F) g = X) :
    (M.view.loc (c : Thread nD τ) ↦[M.view.set]{fullShare} g : sProp 𝕄) ⊢ atP c M X := by
  subst h; exact pointsTo_rep_entails (c : Thread nD τ) M g fullShare

theorem read_joined {s : Shape} {e : EltTy} {sp : Space} (M : Memref sig .tc sp s e) {X X' w' : s.Idx → Elt F e} {off : Fin s.rank → ℕ}
    (inb : ∀ a, off a + s.size a ≤ s.size a) {w : (Rect.unit off s.size inb).shape.Idx → Elt F e} {a a' : BitVec 1} (ha : a = a') (hw : w = w') (hX : X = X') :
    M.view.read (Elt F) (if _h : a = 1#1 then M.view.writes (Elt F) (M.view.rep X) [⟨Rect.unit off s.size inb, w⟩] else M.view.rep X)
      = if a' = 1#1 then w' else X' := by
  subst ha hw hX
  by_cases h : a = 1#1
  · rw [dif_pos h, if_pos h, View.read_writes_full]
  · rw [dif_neg h, if_neg h, View.read_rep]

theorem read_stored {s : Shape} {e : EltTy} {sp : Space} (M : Memref sig .tc sp s e) (f) {w' : s.Idx → Elt F e} {off : Fin s.rank → ℕ}
    {inb : ∀ a, off a + s.size a ≤ s.size a} {w : (Rect.unit off s.size inb).shape.Idx → Elt F e} {L L' : List (View.Piece (Elt F) s e)}
    (hL : L = ⟨Rect.unit off s.size inb, w⟩ :: L') (hw : w = w') : M.view.read (Elt F) (M.view.writes (Elt F) f L) = w' := by
  subst hL hw; exact View.read_writes_full _ _ _ _ _

theorem read_joined' {s : Shape} {e : EltTy} {sp : Space} (M : Memref sig .tc sp s e) (f) {X' w' : s.Idx → Elt F e} {off : Fin s.rank → ℕ}
    (inb : ∀ a, off a + s.size a ≤ s.size a) {w x : (Rect.unit off s.size inb).shape.Idx → Elt F e} {L L' : List (View.Piece (Elt F) s e)} {a a' : BitVec 1}
    (hL : L = ⟨Rect.unit off s.size inb, x⟩ :: L') (ha : a = a') (hw : w = w') (hX : x = X') :
    M.view.read (Elt F) (if _h : a = 1#1 then M.view.writes (Elt F) f (⟨Rect.unit off s.size inb, w⟩ :: L) else M.view.writes (Elt F) f L)
      = if a' = 1#1 then w' else X' := by
  subst ha hw hX hL
  by_cases h : a = 1#1
  · rw [dif_pos h, if_pos h, View.read_writes_full]
  · rw [dif_neg h, if_neg h, View.read_writes_full]

/-- The state's two words, as the scalar memory holds them. -/
abbrev flagW (b : BitVec 1) : S1.Idx → Elt F .i32 := fun _ => (Scalar.extui b : BitVec 32)
abbrev outW (b : Bool) : S1.Idx → Elt F .i32 := fun _ => if b then 1#32 else 0#32

/-- A transfer of block `k` under way into slot `k % 2`. -/
def flyP (k : ℕ) : sProp 𝕄 :=
  iprop((∃ f, flightP c XA (Ring.sl 2 k) (Ring.bk 48 k) f) ∗ (∃ f, slotP c (Ring.sl 2 (k + 1)) f) ∗ cellP c (Ring.sl 2 (k + 1))
    ∗ bigSep (Ring.homeSet 1 k) (homeP c XA))
/-- No transfer under way. -/
def idleP (k : ℕ) : sProp 𝕄 :=
  iprop((∃ f, slotP c (Ring.sl 2 k) f) ∗ (∃ f, slotP c (Ring.sl 2 (k + 1)) f) ∗ cellP c (Ring.sl 2 k) ∗ cellP c (Ring.sl 2 (k + 1))
    ∗ bigSep Finset.univ (homeP c XA))
def ringP (k : ℕ) (b : Bool) : sProp 𝕄 := if b then flyP c XA k else idleP c XA k

/-- Block `k` as the body reads it out of its slot. -/
def blkOf (k : ℕ) : Vec F S1x128x2048 .f32 := fun j =>
  payload c XA (Ring.bk 48 k) ((Shape.reshapeEquiv squeezes_S1x128x2048_S128x2048.numel_eq).symm j)

theorem read_slot_aux (k : ℕ) (f) {off : Fin 3 → ℕ} (h : off = slotOff (Ring.sl 2 k)) (hh) :
    bufM.view.readAt (Elt F) (Rect.unit (s := S2x128x2048) off S1x128x2048.size hh).toLoadRect
      ((rslot (Ring.sl 2 k)).view.writes (Elt F) f [⟨Rect.whole S128x2048, payload c XA (Ring.bk 48 k)⟩]) = blkOf c XA k := by
  subst h
  funext j
  have h1 := congrFun (View.read_writes_whole (rslot (Ring.sl 2 k)).view f (payload c XA (Ring.bk 48 k)))
    ((Shape.reshapeEquiv squeezes_S1x128x2048_S128x2048.numel_eq).symm j)
  refine Eq.trans ?_ h1
  refine Eq.trans ?_ (congrArg (fun i => bufM.view.readAt (Elt F) (Rect.unit (s := S2x128x2048) (slotOff (Ring.sl 2 k)) S1x128x2048.size hh).toLoadRect
      ((rslot (Ring.sl 2 k)).view.writes (Elt F) f [⟨Rect.whole S128x2048, payload c XA (Ring.bk 48 k)⟩]) i) (Equiv.apply_symm_apply (Shape.reshapeEquiv squeezes_S1x128x2048_S128x2048.numel_eq) j).symm)
  rfl

theorem read_slot (t : Fin grid0.N) (f hh) :
    bufM.view.readAt (Elt F) (Rect.unit (s := S2x128x2048) (k0_off10 (grid0.coords t)) S1x128x2048.size hh).toLoadRect
      ((rslot (Ring.sl 2 t.val)).view.writes (Elt F) f [⟨Rect.whole S128x2048, payload c XA (Ring.bk 48 t.val)⟩]) = blkOf c XA t.val :=
  read_slot_aux c XA t.val f (off10_eq t) hh

abbrev PRE (k : ℕ) (s : ScanSt F) (X2 : S128x1696.Idx → Elt F .f32) (X3 : S128x1.Idx → Elt F .f32) : sProp 𝕄 :=
  iprop(atP c arg2 X2 ∗ atP c arg3 X3 ∗ atP c arg4 s.idx ∗ atP c arg5 s.lp ∗ atP c arg7 s.carry ∗ atP c arg8 (flagW s.flag) ∗ atP c arg9 (outW s.out)
    ∗ ringP c XA k s.out ∗ ∃ W, owes (c : Thread nD τ) 0 W)

theorem readAt_rep_full {s : Shape} {e : EltTy} {sp : Space} (M : Memref sig .tc sp s e) (X : s.Idx → Elt F e) {off : Fin s.rank → ℕ}
    (inb : ∀ a, off a + s.size a ≤ s.size a) : M.view.readAt (Elt F) (Rect.unit off s.size inb).toLoadRect (M.view.rep X) = X := by
  rw [View.readAt_full, View.read_rep]

/-- Which of the two branches a point takes: rows still to be done, or a transfer still to be waited for. -/
theorem work_on (u : BitVec 32) (hu : u = 0#32) : Scalar.cmpi .ne (Scalar.extui (Scalar.cmpi .eq u 0#32) : BitVec 32) 0#32 = 1#1 := by
  subst hu; decide
theorem work_off (u : BitVec 32) (hu : u = 1#32) : ¬ Scalar.cmpi .ne (Scalar.extui (Scalar.cmpi .eq u 0#32) : BitVec 32) 0#32 = 1#1 := by
  subst hu; decide
theorem drain_off (u : BitVec 32) (w : BitVec 1) (hu : u = 0#32) :
    ¬ Scalar.cmpi .ne (Scalar.extui (Scalar.andi (Scalar.cmpi .eq u 1#32) w) : BitVec 32) 0#32 = 1#1 := by
  subst hu; simp [Scalar.cmpi, Scalar.andi, Scalar.extui, IntOp.cmpi, IntOp.andi]

theorem drain_none (w : BitVec 1) (u : BitVec 32) (hu : u = 0#32) :
    ¬ Scalar.cmpi .ne (Scalar.extui (Scalar.andi w (Scalar.cmpi .sgt u 0#32)) : BitVec 32) 0#32 = 1#1 := by
  subst hu; simp [Scalar.cmpi, Scalar.andi, Scalar.extui, IntOp.cmpi, IntOp.andi]
theorem drain_on (u w : BitVec 32) (hu : u = 1#32) (hw : w = 1#32) :
    Scalar.cmpi .ne (Scalar.extui (Scalar.andi (Scalar.cmpi .eq u 1#32) (Scalar.cmpi .sgt w 0#32)) : BitVec 32) 0#32 = 1#1 := by
  subst hu hw; decide
theorem coords48 : ∀ t : Fin grid0.N, t.val = 48 → ((grid0.coords t) 0).val = 48 := by decide +kernel

theorem word_read (M : Memref sig .tc .smem S1 .i32) (X : S1.Idx → Elt F .i32) (w : BitVec 32) (h : X = fun _ => w) :
    M.view.readAt (Elt F) (Rect.unit (s := S1) ![0] S1.size inb_S1_S1_0).toLoadRect (M.view.rep X) (Shape.Idx.first (by decide)) = w := by
  rw [View.readAt_apply, View.read_rep, h]

theorem bodyMid (t : Fin grid0.N) (h0 : t.val ≠ 0) (ht : t.val + 1 < 48) (s : ScanSt F) (hf : s.flag = 0#1) (ho : s.out = true)
    (X2 : S128x1696.Idx → Elt F .f32) (X3 : S128x1.Idx → Elt F .f32) (Q : PUnit → sProp 𝕄) :
    iprop(PRE c XA arg2 arg3 arg4 arg5 t.val s X2 X3
        ∗ (PRE c XA arg2 arg3 arg4 arg5 (t.val + 1) (scanStep (grid0.coords t) X3 X2 (blkOf c XA t.val) s true) X2 X3 -∗ Q ⟨⟩))
      ⊢ wp frame (wpE (defs₀ (F := F)) Variants.none (c : Thread nD τ) none) Set.univ (bodyG arg2 harg2 arg3 harg3 arg4 harg4 arg5 harg5 t) Q := by
  have n1 : ¬ k0_cond1 (grid0.coords t) = 1#1 := by rw [cond1_iff]; omega
  have n4 : k0_cond4 (grid0.coords t) = 1#1 := by rw [cond4_iff]; omega
  have n5 : k0_cond5 (grid0.coords t) = 1#1 := by rw [cond5_iff]; omega
  have n6 : k0_cond6 (grid0.coords t) = 1#1 := by rw [cond6_iff]; omega
  have ht' : t.val < 48 := by omega
  obtain ⟨R, hR⟩ : ∃ R, PRE c XA arg2 arg3 arg4 arg5 (t.val + 1) (scanStep (grid0.coords t) X3 X2 (blkOf c XA t.val) s true) X2 X3 = R := ⟨_, rfl⟩
  rw [hR]
  obtain ⟨X7, X4, X5, fl, ou⟩ := s
  simp only at hf ho
  subst hf ho
  have e8 := word_read (F := F) arg8 (flagW 0#1) 0#32 rfl
  have hv7 := work_on _ e8
  dsimp only [PRE]
  unfold ringP
  simp only [if_true]
  unfold flyP
  rw [homes_here c XA t.val ht]
  iintro ⟨⟨H2, H3, H4, H5, H7, H8, H9, ⟨⟨%f, HF⟩, ⟨%fo, Hs⟩, Hc, ⟨Hg, Hh⟩⟩, ⟨%W, HW⟩⟩, Hk⟩
  dsimp only [bodyG]
  simp only [cc0__scan_kernel_eq_skeleton]
  unfold cc0__scan_kernel_skel
  sl_exec
  have hv13' : ¬ bodyMid.sl.v13 (F := F) = 1#1 := by
    unfold bodyMid.sl.v13 bodyMid.sl.v12 bodyMid.sl.v11 bodyMid.sl.v8
    exact drain_off _ _ e8
  sl_exec
  sl_step
  iapply Hk
  rw [← hR]
  clear hR
  have l2 := readAt_rep_full (F := F) arg2 X2 inb_S128x1696_S128x1696_0_0
  have l3 := readAt_rep_full (F := F) arg3 X3 inb_S128x1_S128x1_0_0
  have l4 := readAt_rep_full (F := F) arg4 X4 inb_S128x1_S128x1_0_0
  have l5 := readAt_rep_full (F := F) arg5 X5 inb_S128x1_S128x1_0_0
  have l7 := readAt_rep_full (F := F) arg7 X7 inb_S128x1_S128x1_0_0
  have l6 := read_slot c XA t (rslot (Ring.sl 2 t.val)).view.junk (k0_off10_inb (grid0.coords t))
  rw [show scanStep (grid0.coords t) X3 X2 (blkOf c XA t.val) ⟨X7, X4, X5, 0#1, true⟩ true = scanStep (grid0.coords t) _ _ _ ⟨_, _, _, 0#1, true⟩ true from by
    rw [← l2, ← l3, ← l4, ← l5, ← l6, ← l7]]
  dsimp only [PRE]
  unfold ringP
  simp only [scanStep, if_true]
  unfold flyP
  rw [homes_next c XA t.val ht]
  isplitl [H2]; · iexact H2
  isplitl [H3]; · iexact H3
  isplitl [H4]
  · iapply (atP_of_read c arg4 _ _ ?_) $$ H4
    exact read_joined arg4 _ rfl rfl l4.symm
  isplitl [H5]
  · iapply (atP_of_read c arg5 _ _ ?_) $$ H5
    exact read_joined arg5 _ rfl rfl l5.symm
  isplitl [H7]
  · iapply (atP_of_read c arg7 _ _ ?_) $$ H7
    exact read_stored arg7 _ rfl rfl
  isplitl [H8]
  · iapply (atP_of_read c arg8 _ _ ?_) $$ H8
    exact read_stored arg8 _ rfl rfl
  isplitl [H9]
  · iapply (atP_of_read c arg9 _ _ ?_) $$ H9
    exact read_stored arg9 _ rfl rfl
  isplitr [HW]
  · isplitl [Hc]
    · iexists fo
      iexact Hc
    isplitl [HF_dst]
    · iexists _
      rw [show Ring.sl 2 (t.val + 1 + 1) = Ring.sl 2 t.val from Ring.sl_add _ _]
      iexact HF_dst
    isplitl [HF]
    · rw [show Ring.sl 2 (t.val + 1 + 1) = Ring.sl 2 t.val from Ring.sl_add _ _]
      iexact HF
    isplitl [HF_src]
    · iexact HF_src
    iexact Hh
  · iexists _
    iexact HW

theorem bodyLastBlock (t : Fin grid0.N) (ht : t.val = 47) (s : ScanSt F) (hf : s.flag = 0#1) (ho : s.out = true)
    (X2 : S128x1696.Idx → Elt F .f32) (X3 : S128x1.Idx → Elt F .f32) (Q : PUnit → sProp 𝕄) :
    iprop(PRE c XA arg2 arg3 arg4 arg5 t.val s X2 X3
        ∗ (PRE c XA arg2 arg3 arg4 arg5 (t.val + 1) (scanStep (grid0.coords t) X3 X2 (blkOf c XA t.val) s false) X2 X3 -∗ Q ⟨⟩))
      ⊢ wp frame (wpE (defs₀ (F := F)) Variants.none (c : Thread nD τ) none) Set.univ (bodyG arg2 harg2 arg3 harg3 arg4 harg4 arg5 harg5 t) Q := by
  have n1 : ¬ k0_cond1 (grid0.coords t) = 1#1 := by rw [cond1_iff]; omega
  have n4 : k0_cond4 (grid0.coords t) = 1#1 := by rw [cond4_iff]; omega
  have n5 : ¬ k0_cond5 (grid0.coords t) = 1#1 := by rw [cond5_iff]; omega
  have ht' : t.val < 48 := by omega
  obtain ⟨R, hR⟩ : ∃ R, PRE c XA arg2 arg3 arg4 arg5 (t.val + 1) (scanStep (grid0.coords t) X3 X2 (blkOf c XA t.val) s false) X2 X3 = R := ⟨_, rfl⟩
  rw [hR]
  obtain ⟨X7, X4, X5, fl, ou⟩ := s
  simp only at hf ho
  subst hf ho
  have e8 := word_read (F := F) arg8 (flagW 0#1) 0#32 rfl
  have hv7 := work_on _ e8
  dsimp only [PRE]
  unfold ringP
  simp only [if_true]
  unfold flyP
  iintro ⟨⟨H2, H3, H4, H5, H7, H8, H9, ⟨⟨%f, HF⟩, ⟨%fo, Hs⟩, Hc, Hh⟩, ⟨%W, HW⟩⟩, Hk⟩
  dsimp only [bodyG]
  simp only [cc0__scan_kernel_eq_skeleton]
  unfold cc0__scan_kernel_skel
  sl_exec
  have hv13 : ¬ bodyLastBlock.sl.v13 (F := F) = 1#1 := by
    unfold bodyLastBlock.sl.v13 bodyLastBlock.sl.v12 bodyLastBlock.sl.v11 bodyLastBlock.sl.v8
    exact drain_off _ _ e8
  sl_exec
  sl_step
  iapply Hk
  rw [← hR]
  clear hR
  have l2 := readAt_rep_full (F := F) arg2 X2 inb_S128x1696_S128x1696_0_0
  have l3 := readAt_rep_full (F := F) arg3 X3 inb_S128x1_S128x1_0_0
  have l4 := readAt_rep_full (F := F) arg4 X4 inb_S128x1_S128x1_0_0
  have l5 := readAt_rep_full (F := F) arg5 X5 inb_S128x1_S128x1_0_0
  have l7 := readAt_rep_full (F := F) arg7 X7 inb_S128x1_S128x1_0_0
  have l6 := read_slot c XA t (rslot (Ring.sl 2 t.val)).view.junk (k0_off10_inb (grid0.coords t))
  rw [show scanStep (grid0.coords t) X3 X2 (blkOf c XA t.val) ⟨X7, X4, X5, 0#1, true⟩ false = scanStep (grid0.coords t) _ _ _ ⟨_, _, _, 0#1, true⟩ false from by
    rw [← l2, ← l3, ← l4, ← l5, ← l6, ← l7]]
  dsimp only [PRE]
  unfold ringP
  simp only [scanStep, Bool.false_eq_true, if_false]
  unfold idleP
  rw [homes_all c XA t.val ht', show Ring.sl 2 (t.val + 1 + 1) = Ring.sl 2 t.val from Ring.sl_add _ _]
  isplitl [H2]; · iexact H2
  isplitl [H3]; · iexact H3
  isplitl [H4]
  · iapply (atP_of_read c arg4 _ _ ?_) $$ H4
    exact read_joined arg4 _ rfl rfl l4.symm
  isplitl [H5]
  · iapply (atP_of_read c arg5 _ _ ?_) $$ H5
    exact read_joined arg5 _ rfl rfl l5.symm
  isplitl [H7]
  · iapply (atP_of_read c arg7 _ _ ?_) $$ H7
    exact read_stored arg7 _ rfl rfl
  isplitl [H8]
  · iapply (atP_of_read c arg8 _ _ ?_) $$ H8
    exact read_stored arg8 _ rfl rfl
  isplitl [H9]
  · iapply (atP_of_read c arg9 _ _ ?_) $$ H9
    exact read_stored arg9 _ rfl rfl
  isplitr [HW]
  · isplitl [Hs]
    · iexists fo
      iexact Hs
    isplitl [HF_dst]
    · iexists _
      iexact HF_dst
    isplitl [Hc]; · iexact Hc
    isplitl [HF]; · iexact HF
    isplitl [HF_src]; · iexact HF_src
    iexact Hh
  · iexists _
    iexact HW

theorem bodyTail (t : Fin grid0.N) (ht : t.val = 48) (s : ScanSt F) (hf : s.flag = 0#1) (ho : s.out = false)
    (X2 : S128x1696.Idx → Elt F .f32) (X3 : S128x1.Idx → Elt F .f32) (Q : PUnit → sProp 𝕄) :
    iprop(PRE c XA arg2 arg3 arg4 arg5 t.val s X2 X3
        ∗ (PRE c XA arg2 arg3 arg4 arg5 (t.val + 1) (scanStep (grid0.coords t) X3 X2 (blkOf c XA t.val) s false) X2 X3 -∗ Q ⟨⟩))
      ⊢ wp frame (wpE (defs₀ (F := F)) Variants.none (c : Thread nD τ) none) Set.univ (bodyG arg2 harg2 arg3 harg3 arg4 harg4 arg5 harg5 t) Q := by
  have n1 : ¬ k0_cond1 (grid0.coords t) = 1#1 := by rw [cond1_iff]; omega
  have n4 : ¬ k0_cond4 (grid0.coords t) = 1#1 := by rw [cond4_iff]; omega
  have n5 : ¬ k0_cond5 (grid0.coords t) = 1#1 := by rw [cond5_iff]; omega
  obtain ⟨R, hR⟩ : ∃ R, PRE c XA arg2 arg3 arg4 arg5 (t.val + 1) (scanStep (grid0.coords t) X3 X2 (blkOf c XA t.val) s false) X2 X3 = R := ⟨_, rfl⟩
  rw [hR]
  obtain ⟨X7, X4, X5, fl, ou⟩ := s
  simp only at hf ho
  subst hf ho
  have e8 := word_read (F := F) arg8 (flagW 0#1) 0#32 rfl
  have hv7 := work_on _ e8
  dsimp only [PRE]
  unfold ringP
  simp only [Bool.false_eq_true, if_false]
  unfold idleP
  iintro ⟨⟨H2, H3, H4, H5, H7, H8, H9, ⟨⟨%f, Hs⟩, ⟨%fo, Hs'⟩, Hc, Hc', Hh⟩, ⟨%W, HW⟩⟩, Hk⟩
  dsimp only [bodyG]
  simp only [cc0__scan_kernel_eq_skeleton]
  unfold cc0__scan_kernel_skel
  sl_exec
  sl_step
  iapply Hk
  rw [← hR]
  clear hR
  have l2 := readAt_rep_full (F := F) arg2 X2 inb_S128x1696_S128x1696_0_0
  have l3 := readAt_rep_full (F := F) arg3 X3 inb_S128x1_S128x1_0_0
  have l4 := readAt_rep_full (F := F) arg4 X4 inb_S128x1_S128x1_0_0
  have l5 := readAt_rep_full (F := F) arg5 X5 inb_S128x1_S128x1_0_0
  have l7 := readAt_rep_full (F := F) arg7 X7 inb_S128x1_S128x1_0_0
  have l6 : scanStep (grid0.coords t) X3 X2 (blkOf c XA t.val) ⟨X7, X4, X5, 0#1, false⟩ false
      = scanStep (grid0.coords t) X3 X2 (bufM.view.readAt (Elt F) (Rect.unit (s := S2x128x2048) (k0_off10 (grid0.coords t)) S1x128x2048.size
          (k0_off10_inb (grid0.coords t))).toLoadRect f) ⟨X7, X4, X5, 0#1, false⟩ false :=
    scanStep_last _ (coords48 t ht) _ _ _ _ _ _
  rw [l6, show ∀ b, scanStep (grid0.coords t) X3 X2 b ⟨X7, X4, X5, 0#1, false⟩ false = scanStep (grid0.coords t) _ _ b ⟨_, _, _, 0#1, false⟩ false from fun b => by
    rw [← l2, ← l3, ← l4, ← l5, ← l7]]
  dsimp only [PRE]
  unfold ringP
  simp only [scanStep, Bool.false_eq_true, if_false]
  unfold idleP
  rw [show Ring.sl 2 (t.val + 1 + 1) = Ring.sl 2 t.val from Ring.sl_add _ _]
  isplitl [H2]; · iexact H2
  isplitl [H3]; · iexact H3
  isplitl [H4]
  · iapply (atP_of_read c arg4 _ _ ?_) $$ H4
    exact read_joined arg4 _ rfl rfl l4.symm
  isplitl [H5]
  · iapply (atP_of_read c arg5 _ _ ?_) $$ H5
    exact read_joined arg5 _ rfl rfl l5.symm
  isplitl [H7]
  · iapply (atP_of_read c arg7 _ _ ?_) $$ H7
    exact read_stored arg7 _ rfl rfl
  isplitl [H8]
  · iapply (atP_of_read c arg8 _ _ ?_) $$ H8
    exact read_stored arg8 _ rfl rfl
  isplitl [H9]
  · iapply (atP_of_read c arg9 _ _ ?_) $$ H9
    exact (read_joined' arg9 _ _ (a := bodyTail.sl.v13) rfl rfl rfl rfl).trans (ite_self _)
  isplitr [HW]
  · isplitl [Hs']
    · iexists fo
      iexact Hs'
    isplitl [Hs]
    · iexists f
      iexact Hs
    isplitl [Hc']; · iexact Hc'
    isplitl [Hc]; · iexact Hc
    iexact Hh
  · iexists _
    iexact HW

theorem bodyDrain (t : Fin grid0.N) (h0 : t.val ≠ 0) (ht : t.val < 48) (s : ScanSt F) (hf : s.flag = 1#1) (ho : s.out = true)
    (X2 : S128x1696.Idx → Elt F .f32) (X3 : S128x1.Idx → Elt F .f32) (Q : PUnit → sProp 𝕄) :
    iprop(PRE c XA arg2 arg3 arg4 arg5 t.val s X2 X3
        ∗ (PRE c XA arg2 arg3 arg4 arg5 (t.val + 1) { s with out := false } X2 X3 -∗ Q ⟨⟩))
      ⊢ wp frame (wpE (defs₀ (F := F)) Variants.none (c : Thread nD τ) none) Set.univ (bodyG arg2 harg2 arg3 harg3 arg4 harg4 arg5 harg5 t) Q := by
  have n1 : ¬ k0_cond1 (grid0.coords t) = 1#1 := by rw [cond1_iff]; omega
  have n9 : k0_cond9 (grid0.coords t) = 1#1 := by rw [cond9_iff]; omega
  obtain ⟨R, hR⟩ : ∃ R, PRE c XA arg2 arg3 arg4 arg5 (t.val + 1) { s with out := false } X2 X3 = R := ⟨_, rfl⟩
  rw [hR]
  obtain ⟨X7, X4, X5, fl, ou⟩ := s
  simp only at hf ho
  subst hf ho
  have e8 := word_read (F := F) arg8 (flagW 1#1) 1#32 rfl
  have e9 := word_read (F := F) arg9 (outW true) 1#32 rfl
  have hv13 := drain_on _ _ e8 e9
  have hv7 := work_off _ e8
  dsimp only [PRE]
  unfold ringP
  simp only [if_true]
  unfold flyP
  iintro ⟨⟨H2, H3, H4, H5, H7, H8, H9, ⟨⟨%f, HF⟩, ⟨%fo, Hs⟩, Hc, Hh⟩, ⟨%W, HW⟩⟩, Hk⟩
  dsimp only [bodyG]
  simp only [cc0__scan_kernel_eq_skeleton]
  unfold cc0__scan_kernel_skel
  sl_exec
  sl_step
  iapply Hk
  rw [← hR]
  clear hR
  dsimp only [PRE]
  unfold ringP
  simp only [Bool.false_eq_true, if_false]
  unfold idleP
  rw [homes_all c XA t.val ht, show Ring.sl 2 (t.val + 1 + 1) = Ring.sl 2 t.val from Ring.sl_add _ _]
  isplitl [H2]; · iexact H2
  isplitl [H3]; · iexact H3
  isplitl [H4]; · iexact H4
  isplitl [H5]; · iexact H5
  isplitl [H7]; · iexact H7
  isplitl [H8]; · iexact H8
  isplitl [H9]
  · iapply (atP_of_read c arg9 _ _ ?_) $$ H9
    exact read_stored arg9 _ rfl rfl
  isplitr [HW]
  · isplitl [Hs]
    · iexists fo
      iexact Hs
    isplitl [HF_dst]
    · iexists _
      iexact HF_dst
    isplitl [Hc]; · iexact Hc
    isplitl [HF]; · iexact HF
    isplitl [HF_src]; · iexact HF_src
    iexact Hh
  · iexists _
    iexact HW

theorem bodyIdle (t : Fin grid0.N) (h0 : t.val ≠ 0) (s : ScanSt F) (hf : s.flag = 1#1) (ho : s.out = false)
    (X2 : S128x1696.Idx → Elt F .f32) (X3 : S128x1.Idx → Elt F .f32) (Q : PUnit → sProp 𝕄) :
    iprop(PRE c XA arg2 arg3 arg4 arg5 t.val s X2 X3
        ∗ (PRE c XA arg2 arg3 arg4 arg5 (t.val + 1) s X2 X3 -∗ Q ⟨⟩))
      ⊢ wp frame (wpE (defs₀ (F := F)) Variants.none (c : Thread nD τ) none) Set.univ (bodyG arg2 harg2 arg3 harg3 arg4 harg4 arg5 harg5 t) Q := by
  have n1 : ¬ k0_cond1 (grid0.coords t) = 1#1 := by rw [cond1_iff]; omega
  obtain ⟨R, hR⟩ : ∃ R, PRE c XA arg2 arg3 arg4 arg5 (t.val + 1) s X2 X3 = R := ⟨_, rfl⟩
  rw [hR]
  obtain ⟨X7, X4, X5, fl, ou⟩ := s
  simp only at hf ho
  subst hf ho
  have e8 := word_read (F := F) arg8 (flagW 1#1) 1#32 rfl
  have e9 := word_read (F := F) arg9 (outW false) 0#32 rfl
  have hv7 := work_off _ e8
  dsimp only [PRE]
  unfold ringP
  simp only [Bool.false_eq_true, if_false]
  unfold idleP
  iintro ⟨⟨H2, H3, H4, H5, H7, H8, H9, Hr, ⟨%W, HW⟩⟩, Hk⟩
  dsimp only [bodyG]
  simp only [cc0__scan_kernel_eq_skeleton]
  unfold cc0__scan_kernel_skel
  sl_exec
  have hv13 : ¬ bodyIdle.sl.v13 (F := F) = 1#1 := by
    unfold bodyIdle.sl.v13 bodyIdle.sl.v12 bodyIdle.sl.v11 bodyIdle.sl.v10
    exact drain_none _ _ e9
  sl_exec
  sl_step
  iapply Hk
  rw [← hR]
  clear hR
  icases Hr with ⟨Hs, Hs', Hc, Hc', Hh⟩
  dsimp only [PRE]
  unfold ringP
  simp only [Bool.false_eq_true, if_false]
  unfold idleP
  rw [show Ring.sl 2 (t.val + 1 + 1) = Ring.sl 2 t.val from Ring.sl_add _ _]
  isplitl [H2]; · iexact H2
  isplitl [H3]; · iexact H3
  isplitl [H4]; · iexact H4
  isplitl [H5]; · iexact H5
  isplitl [H7]; · iexact H7
  isplitl [H8]; · iexact H8
  isplitl [H9]; · iexact H9
  isplitr [HW]
  · isplitl [Hs']; · iexact Hs'
    isplitl [Hs]; · iexact Hs
    isplitl [Hc']; · iexact Hc'
    isplitl [Hc]; · iexact Hc
    iexact Hh
  · iexists _
    iexact HW

theorem bodyFirst (t : Fin grid0.N) (ht : t.val = 0) (X4 : S128x1.Idx → Elt F .i32) (X5 X7 : S128x1.Idx → Elt F .f32) (X8 X9 : S1.Idx → Elt F .i32)
    (X2 : S128x1696.Idx → Elt F .f32) (X3 : S128x1.Idx → Elt F .f32) (Q : PUnit → sProp 𝕄) :
    iprop((atP c arg2 X2 ∗ atP c arg3 X3 ∗ atP c arg4 X4 ∗ atP c arg5 X5 ∗ atP c arg7 X7 ∗ atP c arg8 X8 ∗ atP c arg9 X9
          ∗ idleP c XA t.val ∗ ∃ W, owes (c : Thread nD τ) 0 W)
        ∗ (PRE c XA arg2 arg3 arg4 arg5 (t.val + 1) (scanStep (grid0.coords t) X3 X2 (blkOf c XA t.val) scan0 true) X2 X3 -∗ Q ⟨⟩))
      ⊢ wp frame (wpE (defs₀ (F := F)) Variants.none (c : Thread nD τ) none) Set.univ (bodyG arg2 harg2 arg3 harg3 arg4 harg4 arg5 harg5 t) Q := by
  have n1 : k0_cond1 (grid0.coords t) = 1#1 := by rw [cond1_iff]; omega
  have n2 : k0_cond2 (grid0.coords t) = 1#1 := by rw [cond2_iff]; omega
  have n4 : k0_cond4 (grid0.coords t) = 1#1 := by rw [cond4_iff]; omega
  have n5 : k0_cond5 (grid0.coords t) = 1#1 := by rw [cond5_iff]; omega
  have n6 : k0_cond6 (grid0.coords t) = 1#1 := by rw [cond6_iff]; omega
  have ht' : t.val < 48 := by omega
  have ht2 : t.val + 1 < 48 := by omega
  obtain ⟨R, hR⟩ : ∃ R, PRE c XA arg2 arg3 arg4 arg5 (t.val + 1) (scanStep (grid0.coords t) X3 X2 (blkOf c XA t.val) scan0 true) X2 X3 = R := ⟨_, rfl⟩
  rw [hR]
  unfold idleP
  rw [homes_all c XA t.val ht', homes_here c XA t.val ht2]
  iintro ⟨⟨H2, H3, H4, H5, H7, H8, H9, ⟨⟨%f, Hs⟩, ⟨%fo, Hs'⟩, Hc, Hc', ⟨Hg, Hg', Hh⟩⟩, ⟨%W, HW⟩⟩, Hk⟩
  dsimp only [bodyG]
  simp only [cc0__scan_kernel_eq_skeleton]
  unfold cc0__scan_kernel_skel
  sl_exec
  sl_step
  iapply Hk
  rw [← hR]
  clear hR
  have l2 := readAt_rep_full (F := F) arg2 X2 inb_S128x1696_S128x1696_0_0
  have l3 := readAt_rep_full (F := F) arg3 X3 inb_S128x1_S128x1_0_0
  have l6 := read_slot c XA t (rslot (Ring.sl 2 t.val)).view.junk (k0_off10_inb (grid0.coords t))
  have l4 : arg4.view.readCov (bodyFirst.sl.H4_1 (F := F)) (Rect.unit ![0, 0] S128x1.size inb_S128x1_S128x1_0_0).toLoadRect = k0_pay2 := View.readCov_full _ _ _ _ _
  have l5 : arg5.view.readCov (bodyFirst.sl.H5_1 (F := F)) (Rect.unit ![0, 0] S128x1.size inb_S128x1_S128x1_0_0).toLoadRect = k0_pay3 := View.readCov_full _ _ _ _ _
  have l7 : arg7.view.readCov (bodyFirst.sl.H7_1 (F := F)) (Rect.unit ![0, 0] S128x1.size inb_S128x1_S128x1_0_0).toLoadRect = k0_pay1 := View.readCov_full _ _ _ _ _
  rw [show scanStep (grid0.coords t) X3 X2 (blkOf c XA t.val) scan0 true = scanStep (grid0.coords t) _ _ _ ⟨_, _, _, 0#1, false⟩ true from by
    unfold scan0
    rw [← l2, ← l3, ← l4, ← l5, ← l6, ← l7]]
  dsimp only [PRE]
  unfold ringP
  simp only [scanStep, if_true]
  unfold flyP
  rw [homes_next c XA t.val ht2, show Ring.sl 2 (t.val + 1 + 1) = Ring.sl 2 t.val from Ring.sl_add _ _]
  isplitl [H2]; · iexact H2
  isplitl [H3]; · iexact H3
  isplitl [H4]
  · iapply (atP_of_read c arg4 _ _ ?_) $$ H4
    exact read_joined' arg4 _ _ rfl rfl rfl l4.symm
  isplitl [H5]
  · iapply (atP_of_read c arg5 _ _ ?_) $$ H5
    exact read_joined' arg5 _ _ rfl rfl rfl l5.symm
  isplitl [H7]
  · iapply (atP_of_read c arg7 _ _ ?_) $$ H7
    exact read_stored arg7 _ rfl rfl
  isplitl [H8]
  · iapply (atP_of_read c arg8 _ _ ?_) $$ H8
    exact read_stored arg8 _ rfl rfl
  isplitl [H9]
  · iapply (atP_of_read c arg9 _ _ ?_) $$ H9
    exact read_stored arg9 _ rfl rfl
  isplitr [HW]
  · isplitl [Hc']
    · iexists fo
      iexact Hc'
    isplitl [Hs]
    · iexists _
      iexact Hs
    isplitl [Hc]; · iexact Hc
    isplitl [Hg]; · iexact Hg
    iexact Hh
  · iexists _
    iexact HW

end Body

end Cert.KernelIdeal.Own

end
-- ==== Proof.ScanRegion.lean ====
/-
  The scan call as a region: the state after each point, the invariant between points, the proof data, the body
  obligation, and the region's record. Entered from any valuation of the buffers; it reads the array in blocks of its own,
  the tail columns and the thresholds through windows, and leaves the last state's positions and entries in its results.
-/
module

public import proofs.«01_k».proof.Proof.ScanBody
public import Idealize.ShloMosaic.Lib.Pipeline.ValueKit

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev EP : Emb (UR sig nD τ) (MT nD τ sig Unit (Elt F) ℕ (Pipeline.UD sig nD τ) ℕ) := embL
abbrev 𝒱₀ : Variants := Variants.none
/-- Every cell of a TensorCore has the one wait index; nothing is owed, so no order matters. -/
abbrev L : GSem nD τ sig → Finset Unit := fun g => if g.1.2 = .tc then {()} else ∅
abbrev lv : GSem nD τ sig → Unit → ℕ := fun _ _ => 0

/-! ## The state after each point -/

section State
variable (r : Vec F S128x1 .f32) (tail : Vec F S128x1696 .f32) (blk : ℕ → Vec F S1x128x2048 .f32)

def stepAt (t : Fin grid0.N) (s : ScanSt F) : ScanSt F :=
  if s.flag = 0#1 then scanStep (grid0.coords t) r tail (blk t.val) s (decide (t.val + 1 < 48)) else { s with out := false }

/-- The state after `k` points. -/
def St : ℕ → ScanSt F
  | 0 => scan0
  | k + 1 => if h : k < grid0.N then stepAt r tail blk ⟨k, h⟩ (St k) else St k

theorem St_succ (t : Fin grid0.N) : St r tail blk (t.val + 1) = stepAt r tail blk t (St r tail blk t.val) := by
  conv_lhs => unfold St
  rw [dif_pos t.isLt]

/-- Between points: while rows remain a transfer is under way, until the last block; none is after the last point. -/
theorem St_inv (k : ℕ) (hk : k ≠ 0) (hN : k ≤ grid0.N) :
    ((St r tail blk k).flag = 0#1 → (St r tail blk k).out = decide (k < 48)) ∧ ((St r tail blk k).out = true → k < 48) := by
  obtain ⟨j, rfl⟩ := Nat.exists_eq_succ_of_ne_zero hk
  rw [show j.succ = (⟨j, hN⟩ : Fin grid0.N).val + 1 from rfl, St_succ]
  unfold stepAt
  split
  next h => exact ⟨fun _ => rfl, fun h => by simpa [scanStep] using h⟩
  next h => exact ⟨fun h' => absurd h' h, fun h => by simp at h⟩

theorem St_end : (St r tail blk grid0.N).out = false := by
  have h := (St_inv r tail blk grid0.N (by decide) le_rfl).2
  cases e : (St r tail blk grid0.N).out with
  | false => rfl
  | true => exact absurd (h e) (by decide)

end State

/-! ## Element sets: the array's 48 blocks, the buffer's two slots -/

abbrev osem : Fin 2 → SemLoc sig := fun s => .dma (csm s).sem
theorem ownSemFacts : Pipeline.OwnSemFacts spec0 osem := by decide

abbrev GB (b : Fin 48) : Finset S128x100000.Idx := (Rect.unit (s := S128x100000) (grpOff b) S128x2048.size (grpOff_inb b)).set
abbrev SB (s : Fin 2) : Finset S2x128x2048.Idx := (Rect.unit (s := S2x128x2048) (slotOff s) S1x128x2048.size (slotOff_inb s)).set

theorem grp_set (b : Fin 48) : (grp b : Memref sig .tc .hbm _ _).view.set = GB b := View.set_slice_whole _ _
theorem rslot_set (s : Fin 2) : (rslot s : Memref sig .tc .vmem _ _).view.set = SB s := (View.set_reshape _ _).trans (View.set_slice_whole _ _)

theorem mem_GB (b : Fin 48) (y : S128x100000.Idx) : y ∈ GB b → (y 1).val / 2048 = b.val := by
  rw [Rect.mem_set_unit]
  intro H
  have a1 : 2048 * b.val ≤ (y 1).val ∧ (y 1).val < 2048 * b.val + 2048 := H 1
  omega
theorem mem_SB (s : Fin 2) (y : S2x128x2048.Idx) : y ∈ SB s ↔ (y 0).val = s.val := by
  rw [Rect.mem_set_unit]
  have h1 : (y 1).val < 128 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 128; omega
    · show 0 ≤ (y 2).val ∧ (y 2).val < 0 + 2048; omega
theorem GB_disjoint : ∀ b b' : Fin 48, b ≠ b' → Disjoint (GB b) (GB b') := by
  intro b b' hne; rw [Finset.disjoint_left]; intro y hy hy'
  exact hne (Fin.ext ((mem_GB b y hy).symm.trans (mem_GB b' y hy')))
theorem SB_disjoint : ∀ s s' : Fin 2, s ≠ s' → Disjoint (SB s) (SB s') := by
  intro s s' hne; rw [Finset.disjoint_left]; intro y hy hy'; rw [mem_SB] at hy hy'; exact hne (Fin.ext (hy.symm.trans hy'))
theorem SB_cover : (Finset.univ : Finset (Fin 2)).biUnion SB = Finset.univ := by
  ext y; simp only [Finset.mem_biUnion, Finset.mem_univ, true_and, iff_true]; exact ⟨(y 0).cast (by decide), by rw [mem_SB]; rfl⟩

theorem bigSep_fin2 (Φ : Fin 2 → sProp 𝕄) : bigSep Finset.univ Φ = iprop(Φ 0 ∗ Φ 1) :=
  bigSep_univ_eq_bigSepL [(0 : Fin 2), (1 : Fin 2)] (by decide) (by decide) Φ

section Launch
variable (c : Dev nD)

/-- The array's columns past the 48 blocks. -/
abbrev tailP (XA : Buf (Elt F) (aM.view.loc (c : Thread nD τ))) : sProp 𝕄 :=
  ((c : Thread nD τ).loc main_arg0) ↦[Finset.univ \ Finset.univ.biUnion GB]{fullShare} XA

/-- The array whole is its 48 blocks home, beside its tail. -/
theorem a_split (XA : Buf (Elt F) (aM.view.loc (c : Thread nD τ))) :
    (((c : Thread nD τ).loc main_arg0) ↦{fullShare} XA : sProp 𝕄) ⊢ iprop(bigSep Finset.univ (homeP c XA) ∗ tailP c XA) := by
  refine (pointsTo_split_subset (Finset.subset_univ (Finset.univ.biUnion GB))).1.trans (BI.Laws.sep_mono (entails_of_eq ?_) .rfl)
  rw [Ring.pointsTo_sub_blocks (ℓ := (c : Thread nD τ).loc main_arg0) GB GB_disjoint _ rfl]
  exact bigSep_congr fun b _ => by rw [← grp_set]; rfl
theorem a_join (XA : Buf (Elt F) (aM.view.loc (c : Thread nD τ))) :
    iprop(bigSep Finset.univ (homeP c XA) ∗ tailP c XA) ⊢ (((c : Thread nD τ).loc main_arg0) ↦{fullShare} XA : sProp 𝕄) := by
  refine (BI.Laws.sep_mono (entails_of_eq ?_) .rfl).trans (pointsTo_split_subset (Finset.subset_univ (Finset.univ.biUnion GB))).2
  rw [Ring.pointsTo_sub_blocks (ℓ := (c : Thread nD τ).loc main_arg0) GB GB_disjoint _ rfl]
  exact bigSep_congr fun b _ => by rw [← grp_set]; rfl

theorem slotP_eq (s : Fin 2) (f) : slotP c s f = (((c : Thread nD τ).loc cc0_scratch0) ↦[SB s]{fullShare} f : sProp 𝕄) :=
  congrArg (fun S => (_ ↦[S]{fullShare} f : sProp 𝕄)) (rslot_set s)
/-- The buffer whole is its two slots, and back. -/
theorem buf_split :
    iprop(∃ f : Buf (Elt F) ((c : Thread nD τ).loc cc0_scratch0), ((c : Thread nD τ).loc cc0_scratch0) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := Pipeline.UD sig nD τ) (Lvl := ℕ) (q := fullShare) (ℓ := (c : Thread nD τ).loc cc0_scratch0) SB SB_disjoint SB_cover f).trans (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
theorem buf_join :
    iprop((∃ f, slotP c 0 f) ∗ ∃ f, slotP c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) SB SB_disjoint SB_cover f0)
  irw [bigSep_fin2]
  isplitl [H0]
  · iexists f0; iapply (entails_of_eq (slotP_eq c 0 f0)); iexact H0
  · iexists f1; iapply (entails_of_eq (slotP_eq c 1 f1)); iexact H1

theorem ownSems0_eq : (Pipeline.ownSems0 (Ix := Unit) (Name := ℕ) (U := Pipeline.UD sig nD τ) (Lvl := ℕ) (Val := Elt F) (τ := τ) osem c : sProp 𝕄)
    = iprop(cellP c 0 ∗ cellP c 1) := by
  unfold Pipeline.ownSems0; rw [bigSep_fin2]

theorem sl49 : Ring.sl 2 grid0.N = 1 := by decide
theorem sl50 : Ring.sl 2 (grid0.N + 1) = 0 := by decide
theorem sl0 : Ring.sl 2 0 = 0 := by decide
theorem sl1 : Ring.sl 2 (0 + 1) = 1 := by decide

end Launch

/-! ## The proof data -/

section Data
variable (V : Dev nD → Valuation τ sig (Elt F)) (c : Dev nD)

/-- The scanned array, the thresholds, the tail columns, on core `c` at the region's entry. -/
abbrev XA : Buf (Elt F) (aM.view.loc (c : Thread nD τ)) := V c (Proc.devRef .tc main_arg0)
abbrev rv : S128x1.Idx → Elt F .f32 := V c (Proc.devRef .tc main_arg1)
abbrev tl : S128x1696.Idx → Elt F .f32 := V c (Proc.devRef .tc main_v0)
/-- The state after `k` points, on core `c`. -/
def ST (k : ℕ) : ScanSt F := St (rv V c) (tl V c) (blkOf c (XA V c)) k

/-- What the call carries between points. -/
def carryP (k : ℕ) : sProp 𝕄 :=
  if k = 0 then iprop((∃ X7 : S128x1.Idx → Elt F .f32, atP c arg7 X7) ∗ (∃ X8 : S1.Idx → Elt F .i32, atP c arg8 X8) ∗ (∃ X9 : S1.Idx → Elt F .i32, atP c arg9 X9) ∗ idleP c (XA V c) k)
  else iprop(atP c arg7 (ST V c k).carry ∗ atP c arg8 (flagW (ST V c k).flag) ∗ atP c arg9 (outW (ST V c k).out) ∗ ringP c (XA V c) k (ST V c k).out)

/-- What the call does not touch. -/
def restP : sProp 𝕄 :=
  iprop(tailP c (XA V c) ∗ (∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f) ∗ ∃ g, prngReg c g)

def iblk0 (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

theorem ix0_0 : ∀ (t : Fin cfg0.N) (a), (cfg0.win 0).index t a = 0 := by decide +kernel
theorem ix0_1 : ∀ (t : Fin cfg0.N) (a), (cfg0.win 1).index t a = 0 := by decide +kernel
theorem iblk0_0 (t : Fin cfg0.N) : iblk0 V c 0 t = tl V c := by
  funext j; blk_ext [iblk0, ix0_0 t]
theorem iblk0_1 (t : Fin cfg0.N) : iblk0 V c 1 t = rv V c := by
  funext j; blk_ext [iblk0, ix0_1 t]

def dat0 : Dat τ (Elt F) Unit ℕ (Pipeline.UD sig nD τ) ℕ cfg0 c where
  A w := V c (Proc.devRef .tc (Pipeline.arrRef spec0 w))
  after w t := match w with
    | ⟨0, _⟩ => iblk0 V c 0 t
    | ⟨1, _⟩ => iblk0 V c 1 t
    | ⟨2, _⟩ => (ST V c (t.val + 1)).idx
    | ⟨3, _⟩ => (ST V c (t.val + 1)).lp
  Φ k := iprop(carryP V c k.val ∗ restP V c)
  q _ := fullShare
  owed _ := 0

theorem before0_0 (t : Fin cfg0.N) (d) : (dat0 V c).before 0 t d = iblk0 V c 0 t :=
  (Dat.before_in_eq_fetched (dat0 V c) 0 rfl (fun _ => rfl) (fun _ _ _ => rfl) (fun _ => rfl) t d).trans rfl
theorem before0_1 (t : Fin cfg0.N) (d) : (dat0 V c).before 1 t d = iblk0 V c 1 t :=
  (Dat.before_in_eq_fetched (dat0 V c) 1 rfl (fun _ => rfl) (fun _ _ _ => rfl) (fun _ => rfl) t d).trans rfl
theorem before0_2 (t : Fin cfg0.N) (h : t.val ≠ 0) (d) : (dat0 V c).before 2 t d = (ST V c t.val).idx := by
  rw [Dat.before_out_kept (dat0 V c) 2 rfl t h (by decide +revert) (fun _ => rfl) (fun _ _ => rfl) d]
  show (ST V c (t.val - 1 + 1)).idx = _
  rw [Nat.sub_add_cancel (Nat.pos_of_ne_zero h)]
theorem before0_3 (t : Fin cfg0.N) (h : t.val ≠ 0) (d) : (dat0 V c).before 3 t d = (ST V c t.val).lp := by
  rw [Dat.before_out_kept (dat0 V c) 3 rfl t h (by decide +revert) (fun _ => rfl) (fun _ _ => rfl) d]
  show (ST V c (t.val - 1 + 1)).lp = _
  rw [Nat.sub_add_cancel (Nat.pos_of_ne_zero h)]
theorem after0_0 (t : Fin cfg0.N) : (dat0 V c).after 0 t = iblk0 V c 0 t := by dsimp only [dat0]
theorem after0_1 (t : Fin cfg0.N) : (dat0 V c).after 1 t = iblk0 V c 1 t := by dsimp only [dat0]
theorem after0_2 (t : Fin cfg0.N) : (dat0 V c).after 2 t = (ST V c (t.val + 1)).idx := by dsimp only [dat0]
theorem after0_3 (t : Fin cfg0.N) : (dat0 V c).after 3 t = (ST V c (t.val + 1)).lp := by dsimp only [dat0]

/-! ## The body obligation -/

section Step
variable (arg2 : Memref sig .tc .vmem S128x1696 .f32) (harg2 : arg2.IsWhole)
  (arg3 : Memref sig .tc .vmem S128x1 .f32) (harg3 : arg3.IsWhole)
  (arg4 : Memref sig .tc .vmem S128x1 .i32) (harg4 : arg4.IsWhole)
  (arg5 : Memref sig .tc .vmem S128x1 .f32) (harg5 : arg5.IsWhole)

theorem bit_of_ne (b : BitVec 1) (h : ¬ b = 0#1) : b = 1#1 := by revert h; revert b; decide

/-- Every point but the first takes the state after `t` points to the state after `t + 1`. -/
theorem bodyNext (t : Fin grid0.N) (h0 : t.val ≠ 0) (Q : PUnit → sProp 𝕄) :
    iprop(PRE c (XA V c) arg2 arg3 arg4 arg5 t.val (ST V c t.val) (tl V c) (rv V c)
        ∗ (PRE c (XA V c) arg2 arg3 arg4 arg5 (t.val + 1) (ST V c (t.val + 1)) (tl V c) (rv V c) -∗ Q ⟨⟩))
      ⊢ wp frame (wpE (defs₀ (F := F)) Variants.none (c : Thread nD τ) none) Set.univ (bodyG arg2 harg2 arg3 harg3 arg4 harg4 arg5 harg5 t) Q := by
  have hN : t.val < 49 := t.isLt
  obtain ⟨i1, i2⟩ : ((ST V c t.val).flag = 0#1 → (ST V c t.val).out = decide (t.val < 48)) ∧ ((ST V c t.val).out = true → t.val < 48) :=
    St_inv (rv V c) (tl V c) (blkOf c (XA V c)) t.val h0 (Nat.le_of_lt t.isLt)
  have hs : ST V c (t.val + 1) = stepAt (rv V c) (tl V c) (blkOf c (XA V c)) t (ST V c t.val) := St_succ _ _ _ t
  rw [hs]
  generalize ST V c t.val = s at i1 i2
  unfold stepAt
  by_cases hf : s.flag = 0#1
  · rw [if_pos hf]
    have ho := i1 hf
    rcases Nat.lt_trichotomy t.val 47 with h | h | h
    · rw [decide_eq_true (by omega)] at ho ⊢
      exact bodyMid c (XA V c) arg2 harg2 arg3 harg3 arg4 harg4 arg5 harg5 t h0 (by omega) s hf ho (tl V c) (rv V c) Q
    · rw [decide_eq_true (by omega)] at ho
      rw [decide_eq_false (by omega)]
      exact bodyLastBlock c (XA V c) arg2 harg2 arg3 harg3 arg4 harg4 arg5 harg5 t h s hf ho (tl V c) (rv V c) Q
    · rw [decide_eq_false (by omega)] at ho ⊢
      exact bodyTail c (XA V c) arg2 harg2 arg3 harg3 arg4 harg4 arg5 harg5 t (by omega) s hf ho (tl V c) (rv V c) Q
  · rw [if_neg hf]
    have hf1 := bit_of_ne _ hf
    by_cases ho : s.out = true
    · exact bodyDrain c (XA V c) arg2 harg2 arg3 harg3 arg4 harg4 arg5 harg5 t h0 (i2 ho) s hf1 ho (tl V c) (rv V c) Q
    · have ho' : s.out = false := by simpa using ho
      rw [show ({ s with out := false } : ScanSt F) = s from by rw [← ho']]
      exact bodyIdle c (XA V c) arg2 harg2 arg3 harg3 arg4 harg4 arg5 harg5 t h0 s hf1 ho' (tl V c) (rv V c) Q

theorem ST_first (t : Fin grid0.N) (h0 : t.val = 0) : ST V c (t.val + 1) = scanStep (grid0.coords t) (rv V c) (tl V c) (blkOf c (XA V c) t.val) scan0 true := by
  refine (St_succ _ _ _ t).trans ?_
  unfold stepAt
  rw [h0]
  rfl

end Step

abbrev s0 (t : Fin cfg0.N) : Memref sig .tc .vmem S128x1696 .f32 := win0_0.stage (cfg0.slots t 0)
abbrev s1 (t : Fin cfg0.N) : Memref sig .tc .vmem S128x1 .f32 := win0_1.stage (cfg0.slots t 1)
abbrev s2 (t : Fin cfg0.N) : Memref sig .tc .vmem S128x1 .i32 := win0_2.stage (cfg0.slots t 2)
abbrev s3 (t : Fin cfg0.N) : Memref sig .tc .vmem S128x1 .f32 := win0_3.stage (cfg0.slots t 3)

theorem defs_tc0 : (defs₀ (F := F)) .tc cfg0.body
    = fun a => bodyG (win0_0.stage (a.2 0)) (hstage0_0 ((a.2 0).cast nbuf0_0)) (win0_1.stage (a.2 1)) (hstage0_1 ((a.2 1).cast nbuf0_1))
        (win0_2.stage (a.2 2)) (hstage0_2 ((a.2 2).cast nbuf0_2)) (win0_3.stage (a.2 3)) (hstage0_3 ((a.2 3).cast nbuf0_3)) a.1 := rfl
theorem prog_eq0 (t : Fin cfg0.N) : (defs₀ (F := F)) .tc cfg0.body (cfg0.bodyArgs t (cfg0.slots t))
    = bodyG (s0 t) (hstage0_0 ((cfg0.slots t 0).cast nbuf0_0)) (s1 t) (hstage0_1 ((cfg0.slots t 1).cast nbuf0_1))
        (s2 t) (hstage0_2 ((cfg0.slots t 2).cast nbuf0_2)) (s3 t) (hstage0_3 ((cfg0.slots t 3).cast nbuf0_3)) t :=
  (congrFun defs_tc0 _).trans rfl

theorem carryP_pos (k : ℕ) (h : k ≠ 0) : carryP V c k
    = iprop(atP c arg7 (ST V c k).carry ∗ atP c arg8 (flagW (ST V c k).flag) ∗ atP c arg9 (outW (ST V c k).out) ∗ ringP c (XA V c) k (ST V c k).out) := by
  unfold carryP; rw [if_neg h]
theorem carryP_zero (k : ℕ) (h : k = 0) : carryP V c k
    = iprop((∃ X7 : S128x1.Idx → Elt F .f32, atP c arg7 X7) ∗ (∃ X8 : S1.Idx → Elt F .i32, atP c arg8 X8) ∗ (∃ X9 : S1.Idx → Elt F .i32, atP c arg9 X9) ∗ idleP c (XA V c) k) := by
  unfold carryP; rw [if_pos h]

theorem atP_intro {s : Shape} {e : EltTy} {sp : Space} (M : Memref sig .tc sp s e) (g : Buf (Elt F) (M.view.loc (c : Thread nD τ))) :
    (M.view.loc (c : Thread nD τ) ↦[M.view.set]{fullShare} g : sProp 𝕄) ⊢ iprop(∃ X, atP c M X) := by
  iintro H; iexists _; iapply (atP_of_read c M _ g rfl); iexact H

/-- A point, from what the call carries and what its windows hold, to the state after it. -/
theorem runPoint (t : Fin cfg0.N) (Q : PUnit → sProp 𝕄) :
    iprop((carryP V c t.val ∗ (∃ W, owes (c : Thread nD τ) 0 W) ∗ atP c (s0 t) (tl V c) ∗ atP c (s1 t) (rv V c)
        ∗ (∃ d f, ⌜(s2 t).view.read (Elt F) f = (dat0 V c).before 2 t d⌝ ∗ (s2 t).view.loc (c : Thread nD τ) ↦[(s2 t).view.set]{fullShare} f)
        ∗ (∃ d f, ⌜(s3 t).view.read (Elt F) f = (dat0 V c).before 3 t d⌝ ∗ (s3 t).view.loc (c : Thread nD τ) ↦[(s3 t).view.set]{fullShare} f))
        ∗ ((PRE c (XA V c) (s0 t) (s1 t) (s2 t) (s3 t) (t.val + 1) (ST V c (t.val + 1)) (tl V c) (rv V c)) -∗ Q ⟨⟩))
      ⊢ wp frame (wpE (defs₀ (F := F)) Variants.none (c : Thread nD τ) none) Set.univ
        (bodyG (s0 t) (hstage0_0 ((cfg0.slots t 0).cast nbuf0_0)) (s1 t) (hstage0_1 ((cfg0.slots t 1).cast nbuf0_1))
          (s2 t) (hstage0_2 ((cfg0.slots t 2).cast nbuf0_2)) (s3 t) (hstage0_3 ((cfg0.slots t 3).cast nbuf0_3)) t) Q := by
  by_cases h0 : t.val = 0
  · rw [carryP_zero V c t.val h0, ST_first V c t h0]
    iintro ⟨⟨⟨⟨%X7, H7⟩, ⟨%X8, H8⟩, ⟨%X9, H9⟩, HI⟩, HW, H2, H3, ⟨%d4, %g4, -, H4⟩, ⟨%d5, %g5, -, H5⟩⟩, Hk⟩
    ihave H4' := (atP_of_read c (s2 t) _ g4 rfl) $$ H4
    ihave H5' := (atP_of_read c (s3 t) _ g5 rfl) $$ H5
    iapply (bodyFirst c (XA V c) _ _ _ _ _ _ _ _ t h0 _ _ X7 X8 X9)
    isplitr [Hk]
    · isplitl [H2]; · iexact H2
      isplitl [H3]; · iexact H3
      isplitl [H4']; · iexact H4'
      isplitl [H5']; · iexact H5'
      isplitl [H7]; · iexact H7
      isplitl [H8]; · iexact H8
      isplitl [H9]; · iexact H9
      isplitl [HI]; · iexact HI
      iexact HW
    · iexact Hk
  · rw [carryP_pos V c t.val h0]
    simp only [before0_2 V c t h0, before0_3 V c t h0]
    iintro ⟨⟨⟨H7, H8, H9, HI⟩, HW, H2, H3, ⟨%d4, %g4, %e4, H4⟩, ⟨%d5, %g5, %e5, H5⟩⟩, Hk⟩
    ihave H4' := (atP_of_read c (s2 t) _ g4 e4) $$ H4
    ihave H5' := (atP_of_read c (s3 t) _ g5 e5) $$ H5
    iapply (bodyNext V c _ _ _ _ _ _ _ _ t h0)
    isplitr [Hk]
    · isplitl [H2]; · iexact H2
      isplitl [H3]; · iexact H3
      isplitl [H4']; · iexact H4'
      isplitl [H5']; · iexact H5'
      isplitl [H7]; · iexact H7
      isplitl [H8]; · iexact H8
      isplitl [H9]; · iexact H9
      isplitl [HI]; · iexact HI
      iexact HW
    · iexact Hk

set_option backward.isDefEq.respectTransparency.types false in
theorem obligation0 : BodyObligation (dat0 V c) (defs₀ (F := F)) 𝒱₀ () Set.univ := fun t => by
  rw [bigSep_W0, bigSep_W0]
  dsimp only
  simp only [before0_0, before0_1, after0_0, after0_1, after0_2, after0_3, iblk0_0, iblk0_1]
  rw [show (dat0 V c).Φ t.castSucc = iprop(carryP V c t.val ∗ restP V c) from rfl, show (dat0 V c).Φ t.succ = iprop(carryP V c (t.val + 1) ∗ restP V c) from rfl]
  unfold Dat.owesAt Pipeline.owesWithin
  rw [show (dat0 V c).owed t.castSucc = 0 from rfl, show (dat0 V c).owed t.succ = 0 from rfl]
  unfold owns
  iintro ⟨⟨HC, HR⟩, ⟨%W, -, HW⟩, ⟨%d0, %g0, %e0, H0⟩, ⟨%d1, %g1, %e1, H1⟩, H2, H3⟩
  ihave H0' := (atP_of_read c (s0 t) _ g0 e0) $$ H0
  ihave H1' := (atP_of_read c (s1 t) _ g1 e1) $$ H1
  sl_rw [prog_eq0 t]
  iapply (runPoint V c t)
  isplitr [HR]
  · isplitl [HC]; · iexact HC
    isplitl [HW]; · iexists W; iexact HW
    isplitl [H0']; · iexact H0'
    isplitl [H1']; · iexact H1'
    isplitl [H2]; · iexact H2
    iexact H3
  · iintro ⟨H0, H1, H2, H3, H7, H8, H9, HI, ⟨%W', HW⟩⟩
    rw [carryP_pos V c (t.val + 1) (Nat.succ_ne_zero _)]
    isplitl [H7 H8 H9 HI HR]
    · isplitr [HR]
      · isplitl [H7]; · iexact H7
        isplitl [H8]; · iexact H8
        isplitl [H9]; · iexact H9
        iexact HI
      · iexact HR
    isplitl [HW]
    · iexists W'; isplitr; · ipureintro; exact fun _ _ => Or.inl trivial
      iexact HW
    isplitl [H0]; · iexists _; isplitr; · ipureintro; exact View.read_rep _ _
                    iexact H0
    isplitl [H1]; · iexists _; isplitr; · ipureintro; exact View.read_rep _ _
                    iexact H1
    isplitl [H2]; · iexists _; isplitr; · ipureintro; exact View.read_rep _ _
                    iexact H2
    iexists _; isplitr; · ipureintro; exact View.read_rep _ _
    iexact H3

/-! ## The region's two ends -/

theorem whole_atP (b : Ref sig .tc) (f : Buf (Elt F) ((c : Thread nD τ).loc b)) :
    (((c : Thread nD τ).loc b) ↦{fullShare} f : sProp 𝕄) = ((Memref.whole b).view.loc (c : Thread nD τ) ↦[(Memref.whole b).view.set]{fullShare} f : sProp 𝕄) := by
  rw [View.set_whole]

theorem entry0 :
    iprop(Pipeline.scopedRest spec0 c ∗ (∃ g, prngReg c g) ∗ Pipeline.ownSems0 osem c
        ∗ (bigSep {main_arg0} fun b => ((c.tc : Thread nD τ).loc b) ↦{fullShare} V c (Proc.devRef .tc b)) ∗ Transfers.MayWaits (c : Thread nD τ) () 0)
      ⊢ (dat0 V c).Φ 0 := by
  rw [scopedRest0_eq, ownSems0_eq, bigSep_singleton, show (dat0 V c).Φ 0 = iprop(carryP V c 0 ∗ restP V c) from rfl, carryP_zero V c 0 rfl]
  unfold restP idleP
  rw [sl0, sl1]
  iintro ⟨⟨Hb, ⟨%f7, H7⟩, Ha, Ha1, Ha2, ⟨%f8, H8⟩, ⟨%f9, H9⟩⟩, Hp, ⟨Hc0, Hc1⟩, HA, -⟩
  ihave HA' := (a_split c _) $$ HA
  ihave Hb' := (buf_split c) $$ Hb
  icases HA' with ⟨HA, Ht⟩
  icases Hb' with ⟨Hs0, Hs1⟩
  isplitr [Ht Ha Ha1 Ha2 Hp]
  · isplitl [H7]; · iapply (atP_intro c arg7 f7); iapply (entails_of_eq (whole_atP c cc0_scratch1 f7)); iexact H7
    isplitl [H8]; · iapply (atP_intro c arg8 f8); iapply (entails_of_eq (whole_atP c cc0_scratch2 f8)); iexact H8
    isplitl [H9]; · iapply (atP_intro c arg9 f9); iapply (entails_of_eq (whole_atP c cc0_scratch3 f9)); iexact H9
    isplitl [Hs0]; · iexact Hs0
    isplitl [Hs1]; · iexact Hs1
    isplitl [Hc0]; · iexact Hc0
    isplitl [Hc1]; · iexact Hc1
    iexact HA
  · isplitl [Ht]; · iexact Ht
    isplitl [Ha]; · iexact Ha
    isplitl [Ha1]; · iexact Ha1
    isplitl [Ha2]; · iexact Ha2
    iexact Hp

theorem exit0 :
    (dat0 V c).Φ (Fin.last cfg0.N) ⊢ iprop(Pipeline.scopedRest spec0 c ∗ (∃ g, prngReg c g) ∗ Pipeline.ownSems0 osem c
        ∗ (bigSep {main_arg0} fun b => ((c.tc : Thread nD τ).loc b) ↦{fullShare} V c (Proc.devRef .tc b))) := by
  rw [scopedRest0_eq, ownSems0_eq, bigSep_singleton, show (dat0 V c).Φ (Fin.last cfg0.N) = iprop(carryP V c grid0.N ∗ restP V c) from rfl, carryP_pos V c grid0.N (by decide)]
  rw [show (ST V c grid0.N).out = false from St_end _ _ _]
  unfold restP ringP
  simp only [Bool.false_eq_true, if_false]
  unfold idleP
  rw [sl49, sl50]
  iintro ⟨⟨H7, H8, H9, Hs1, Hs0, Hc1, Hc0, HA⟩, Ht, Ha, Ha1, Ha2, Hp⟩
  isplitr [Hp Hc0 Hc1 HA Ht]
  · isplitl [Hs0 Hs1]
    · iapply (buf_join c); isplitl [Hs0]; · iexact Hs0
      iexact Hs1
    isplitl [H7]; · iexists _; iapply (entails_of_eq (whole_atP c cc0_scratch1 _).symm); iexact H7
    isplitl [Ha]; · iexact Ha
    isplitl [Ha1]; · iexact Ha1
    isplitl [Ha2]; · iexact Ha2
    isplitl [H8]; · iexists _; iapply (entails_of_eq (whole_atP c cc0_scratch2 _).symm); iexact H8
    iexists _; iapply (entails_of_eq (whole_atP c cc0_scratch3 _).symm); iexact H9
  isplitl [Hp]; · iexact Hp
  isplitl [Hc0 Hc1]
  · isplitl [Hc0]; · iexact Hc0
    iexact Hc1
  iapply (a_join c _)
  isplitl [HA]; · iexact HA
  iexact Ht

/-! ## The results -/

def tLast : Fin cfg0.N := ⟨48, by decide⟩
theorem tLast_succ : tLast.val + 1 = grid0.N := by decide +kernel

theorem final0_2 : (dat0 V c).arrAt 2 cfg0.N = (ST V c grid0.N).idx := by
  refine Dat.arrAt_eq_of_after_last (dat0 V c) 2 tLast (by decide +kernel) _ fun j => ?_
  blk_simp
  exact congrFun ((after0_2 V c tLast).trans (by rw [tLast_succ])) j
theorem final0_3 : (dat0 V c).arrAt 3 cfg0.N = (ST V c grid0.N).lp := by
  refine Dat.arrAt_eq_of_after_last (dat0 V c) 3 tLast (by decide +kernel) _ fun j => ?_
  blk_simp
  exact congrFun ((after0_3 V c tLast).trans (by rw [tLast_succ])) j

end Data

end Cert.KernelIdeal.Own

end
-- ==== Proof.FillRegion.lean ====
/-
  The fill call as a region: each point writes one block of columns of the result, zero at the row's position and minus
  infinity elsewhere. Entered from any valuation of the buffers.
-/
module

public import proofs.«01_k».proof.Proof.ScanRegion
public import Idealize.ShloMosaic.Lib.Pointwise
public import Idealize.ShloMosaic.Lib.ValueIdx

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Data
variable (V : Dev nD → Valuation τ sig (Elt F)) (c : Dev nD)

/-- The rows' positions at the region's entry. -/
abbrev posv : S128x1.Idx → Elt F .i32 := V c (Proc.devRef .tc main_v1_0)

abbrev f0 (t : Fin cfg1.N) : Memref sig .tc .vmem S128x1 .i32 := win1_0.stage (cfg1.slots t 0)
abbrev f1 (t : Fin cfg1.N) : Memref sig .tc .vmem S128x4096 .f32 := win1_1.stage (cfg1.slots t 1)

theorem fillRun (t : Fin cfg1.N) (arg1 : Memref sig .tc .vmem S128x1 .i32) (harg1 : arg1.IsWhole) (arg2 : Memref sig .tc .vmem S128x4096 .f32) (harg2 : arg2.IsWhole)
    (X1 : S128x1.Idx → Elt F .i32) (X2 : S128x4096.Idx → Elt F .f32) (Q : PUnit → sProp 𝕄) :
    iprop((atP c arg1 X1 ∗ atP c arg2 X2) ∗ ((atP c arg1 X1 ∗ atP c arg2 (k1_pay1 (grid1.coords t) X1)) -∗ Q ⟨⟩))
      ⊢ wp frame (wpE (defs₀ (F := F)) Variants.none (c : Thread nD τ) none) Set.univ (cc1__fill_kernel (grid1.coords t) arg1 harg1 arg2 harg2) Q := by
  obtain ⟨R, hR⟩ : ∃ R, iprop(atP c arg1 X1 ∗ atP c arg2 (k1_pay1 (grid1.coords t) X1)) = R := ⟨_, rfl⟩
  rw [hR]
  iintro ⟨⟨H1, H2⟩, Hk⟩
  simp only [cc1__fill_kernel_eq_skeleton]
  unfold cc1__fill_kernel_skel
  sl_exec
  sl_step
  iapply Hk
  rw [← hR]
  isplitl [H1]; · iexact H1
  iapply (atP_of_read c arg2 _ _ ?_) $$ H2
  exact read_stored arg2 _ rfl (congrArg _ (readAt_rep_full arg1 X1 _))

def iblk1 (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

theorem ix1_0 : ∀ (t : Fin cfg1.N) (a), (cfg1.win 0).index t a = 0 := by decide +kernel
theorem ix1_1 : ∀ (t : Fin cfg1.N) (a), (cfg1.win 1).index t a = ![0, t.val] a := by decide +kernel
theorem iblk1_0 (t : Fin cfg1.N) : iblk1 V c 0 t = posv V c := by
  funext j; blk_ext [iblk1, ix1_0 t]

def dat1 : Dat τ (Elt F) Unit ℕ (Pipeline.UD sig nD τ) ℕ cfg1 c where
  A w := V c (Proc.devRef .tc (Pipeline.arrRef spec1 w))
  after w t := match w with
    | ⟨0, _⟩ => iblk1 V c 0 t
    | ⟨1, _⟩ => k1_pay1 (grid1.coords t) (posv V c)
  Φ k := iprop(Pipeline.scopedRest spec1 c ∗ ∃ g, prngReg c g)
  q _ := fullShare
  owed _ := 0

theorem before1_0 (t : Fin cfg1.N) (d) : (dat1 V c).before 0 t d = iblk1 V c 0 t :=
  (Dat.before_in_eq_fetched (dat1 V c) 0 rfl (fun _ => rfl) (fun _ _ _ => rfl) (fun _ => rfl) t d).trans rfl
theorem after1_0 (t : Fin cfg1.N) : (dat1 V c).after 0 t = iblk1 V c 0 t := by dsimp only [dat1]
theorem after1_1 (t : Fin cfg1.N) : (dat1 V c).after 1 t = k1_pay1 (grid1.coords t) (posv V c) := by dsimp only [dat1]

theorem defs_tc1 : (defs₀ (F := F)) .tc cfg1.body
    = fun a => cc1__fill_kernel (grid1.coords a.1) (win1_0.stage (a.2 0)) (hstage1_0 ((a.2 0).cast nbuf1_0)) (win1_1.stage (a.2 1)) (hstage1_1 ((a.2 1).cast nbuf1_1)) := rfl
theorem prog_eq1 (t : Fin cfg1.N) : (defs₀ (F := F)) .tc cfg1.body (cfg1.bodyArgs t (cfg1.slots t))
    = cc1__fill_kernel (grid1.coords t) (f0 t) (hstage1_0 ((cfg1.slots t 0).cast nbuf1_0)) (f1 t) (hstage1_1 ((cfg1.slots t 1).cast nbuf1_1)) :=
  (congrFun defs_tc1 _).trans rfl

set_option backward.isDefEq.respectTransparency.types false in
theorem obligation1 : BodyObligation (dat1 V c) (defs₀ (F := F)) 𝒱₀ () Set.univ := fun t => by
  rw [bigSep_W1, bigSep_W1]
  dsimp only
  simp only [before1_0, after1_0, after1_1, iblk1_0]
  rw [show (dat1 V c).Φ t.castSucc = (dat1 V c).Φ 0 from rfl, show (dat1 V c).Φ t.succ = (dat1 V c).Φ 0 from rfl]
  unfold Dat.owesAt Pipeline.owesWithin
  rw [show (dat1 V c).owed t.castSucc = 0 from rfl, show (dat1 V c).owed t.succ = 0 from rfl]
  unfold owns
  iintro ⟨HR, ⟨%W, -, HW⟩, ⟨%d0, %g0, %e0, H0⟩, ⟨%d1, %g1, %e1, H1⟩⟩
  ihave H0' := (atP_of_read c (f0 t) _ g0 e0) $$ H0
  ihave H1' := (atP_of_read c (f1 t) _ g1 rfl) $$ H1
  sl_rw [prog_eq1 t]
  iapply (fillRun c t _ _ _ _ (posv V c))
  isplitl [H0' H1']
  · isplitl [H0']; · iexact H0'
    iexact H1'
  · iintro ⟨H0, H1⟩
    isplitl [HR]; · iexact HR
    isplitl [HW]
    · iexists W; isplitr; · ipureintro; exact fun _ _ => Or.inl trivial
      iexact HW
    isplitl [H0]; · iexists _; isplitr; · ipureintro; exact View.read_rep _ _
                    iexact H0
    iexists _; isplitr; · ipureintro; exact View.read_rep _ _
    iexact H1

/-- The filled array: zero at the row's position, minus infinity elsewhere. -/
def fillOf (p : S128x1.Idx → Elt F .i32) : S128x100000.Idx → Elt F .f32 := fun i =>
  Scalar.select (Scalar.cmpi .eq (BitVec.ofNat 32 (i 1).val) (p (ix2 (i 0) 0))) (Scalar.ofBits .f32 0x00000000#32) (Scalar.ofBits .f32 0xFF800000#32)

theorem pay1_at (i : grid1.Coords) (p : S128x1.Idx → Elt F .i32) (a : Fin 128) (b : Fin 4096) :
    k1_pay1 (F := F) i p (ix2 a b) = Scalar.select (Scalar.cmpi .eq (BitVec.ofNat 32 (4096 * (i 0).val + b.val)) (p (ix2 a 0)))
      (Scalar.ofBits .f32 0x00000000#32) (Scalar.ofBits .f32 0xFF800000#32) := by
  unfold k1_pay1
  pointwise
  have e : (IntOp.addi (Scalar.muli (BitVec.ofNat 32 (i 0).val) 4096#32) (BitVec.ofNat 32 b.val) : BitVec 32) = BitVec.ofNat 32 (4096 * (i 0).val + b.val) := by
    rw [BitVec.ofNat_add, BitVec.ofNat_mul, BitVec.mul_comm]; rfl
  exact congrArg (fun w : BitVec 32 => Scalar.select (Scalar.cmpi .eq w (p (ix2 a 0))) (Scalar.ofBits (F := F) .f32 0x00000000#32) (Scalar.ofBits .f32 0xFF800000#32)) e

theorem coords1 : ∀ t : Fin cfg1.N, ((grid1.coords t) 0).val = t.val := by decide +kernel

theorem final1_1 : (dat1 V c).arrAt 1 cfg1.N = fillOf (posv V c) := by
  refine Dat.arrAt_eq_of_covers (dat1 V c) 1 _ (by decide +kernel) fun t hf y => ?_
  blk_simp
  rw [after1_1]
  obtain ⟨a, b, e⟩ : ∃ (a : Fin 128) (b : Fin 4096), ((cfg1.win 1).xinj (cfg1.grid.coords t) y) = ix2 a b := ⟨_, _, (ix2_eta _).symm⟩
  have ha : (y 0).val = a.val := congrArg (fun j : S128x4096.Idx => (j 0).val) e
  have hb : (y 1).val = b.val := congrArg (fun j : S128x4096.Idx => (j 1).val) e
  rw [e, pay1_at, coords1]
  have h0 : ((win1_1.blk t).view.emb y 0).val = a.val := by blk_simp [ix1_1 t]; simpa using ha
  have h1 : ((win1_1.blk t).view.emb y 1).val = 4096 * t.val + b.val := by blk_simp [ix1_1 t]; simp; omega
  unfold fillOf
  rw [h1]
  have h0' : (win1_1.blk t).view.emb y 0 = a := Fin.ext h0
  rw [h0']

end Data

end Cert.KernelIdeal.Own

end
-- ==== Proof.Run.lean ====
/-
  The whole program's run: the host's slice of the tail columns, the scan call, the fill call. Every execution ends, and
  the results hold the last scan state's entries and the array filled at its positions.
-/
module

public import proofs.«01_k».proof.Proof.FillRegion

@[expose] public section

set_option maxRecDepth 16384

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-- What the scan call leaves, and what the fill call leaves after it. -/
def outs0 : Outs (F := F) := fun _ r c => Pipeline.afterRegion (dat0 (V1 m) c) (V1 m c) (Proc.devRef .tc r)
abbrev Vmid (c : Dev nD) : Valuation τ sig (Elt F) := V2 m (outs0 m) c
def outs : Outs (F := F) := fun J r c =>
  if J = 2 then outs0 m J r c else Pipeline.afterRegion (dat1 (Vmid m) c) (Vmid m c) (Proc.devRef .tc r)

theorem V2_outs (c : Dev nD) : V2 m (outs m) c = Vmid m c := rfl

def pdats : (p : Fin 2) → (c : Dev nD) → Dat τ (Elt F) Unit ℕ (Pipeline.UD sig nD τ) ℕ (cfgs p) c
  | 0 => fun c => dat0 (V1 m) c
  | 1 => fun c => dat1 (Vmid m) c
  | ⟨_ + 2, h⟩ => absurd h (Nat.not_lt.2 (Nat.le_add_left _ _))

abbrev E (_ : Fin 3) (c : Dev nD) : sProp 𝕄 := iprop((∃ g, prngReg c g) ∗ ∃ W, owes (c : Thread nD τ) 0 W)

theorem hcut (p : Fin 2) : Pipeline.LevelCut (pcfgs (F := F)) adm () L lv p (fun _ : Dev nD => 0) (fun _ => 0) :=
  ⟨fun c w s => by simp [L], fun c w s => le_refl _, fun c g i h => absurd h (by simp)⟩

theorem mem_arr0 (w : Fin 4) : (Proc.devRef .tc (Pipeline.arrRef spec0 w) : DevRef τ sig) ∈ Pipeline.arrRefs (τ := τ) spec0 :=
  Finset.mem_map.mpr ⟨_, Finset.mem_image.mpr ⟨w, Finset.mem_univ _, rfl⟩, rfl⟩
theorem mem_arr1 (w : Fin 2) : (Proc.devRef .tc (Pipeline.arrRef spec1 w) : DevRef τ sig) ∈ Pipeline.arrRefs (τ := τ) spec1 :=
  Finset.mem_map.mpr ⟨_, Finset.mem_image.mpr ⟨w, Finset.mem_univ _, rfl⟩, rfl⟩

theorem sub0 : Pipeline.arrRefs (τ := τ) spec0 ⊆ Pipeline.ucRefs τ sig := Pipeline.arrRefs_sub_ucRefs spec0 (by decide)
theorem sub1 : Pipeline.arrRefs (τ := τ) spec1 ⊆ Pipeline.ucRefs τ sig := Pipeline.arrRefs_sub_ucRefs spec1 (by decide)
abbrev Sr0 : Finset (DevRef τ sig) := Pipeline.ucRefs τ sig \ Pipeline.arrRefs (τ := τ) spec0
abbrev Sr1 : Finset (DevRef τ sig) := Pipeline.ucRefs τ sig \ Pipeline.arrRefs (τ := τ) spec1

theorem hHS : Pipeline.hbmRefs (τ := τ) ({main_arg0} : Finset (Ref sig .tc)) ⊆ Sr0 := by decide

theorem off0 (c : Dev nD) : ∀ b ∈ Sr0, V1 m c b = V2 m (outs m) c b := fun b hb => by
  have h2 : b ≠ Proc.devRef .tc main_v1_0 := fun e => (Finset.mem_sdiff.mp hb).2 (e ▸ mem_arr0 2)
  have h3 : b ≠ Proc.devRef .tc main_v1_1 := fun e => (Finset.mem_sdiff.mp hb).2 (e ▸ mem_arr0 3)
  simp only [V2, Function.update_of_ne h3, Function.update_of_ne h2]
theorem off1 (c : Dev nD) : ∀ b ∈ Sr1, V2 m (outs m) c b = V3 m (outs m) c b := fun b hb => by
  have h1 : b ≠ Proc.devRef .tc main_v2 := fun e => (Finset.mem_sdiff.mp hb).2 (e ▸ mem_arr1 1)
  simp only [V3, Function.update_of_ne h1]

/-- The valuation after the scan call has its windows' arrays at what the call leaves. -/
theorem V2_arr (c : Dev nD) (w : Fin 4) : (dat0 (V1 m) c).arrAt w cfg0.N = V2 m (outs m) c (Proc.devRef .tc (Pipeline.arrRef spec0 w)) := by
  fin_cases w
  · refine ((dat0 (V1 m) c).arrAt_in 0 rfl _).trans ?_
    exact (V2_of m (outs m) c main_v0 (by decide)).symm
  · refine ((dat0 (V1 m) c).arrAt_in 1 rfl _).trans ?_
    exact (V2_of m (outs m) c main_arg1 (by decide)).symm
  · refine (Pipeline.afterRegion_arr (dat0 (V1 m) c) (V1 m c) (by decide) 2).symm.trans ?_
    show _ = V2 m (outs m) c (Proc.devRef .tc main_v1_0)
    simp only [V2, Function.update_of_ne (StableHlo.devRef_ne_of_ne (by decide : main_v1_0 ≠ main_v1_1) : (Proc.devRef .tc main_v1_0 : DevRef τ sig) ≠ Proc.devRef .tc main_v1_1), Function.update_self]
    rfl
  · refine (Pipeline.afterRegion_arr (dat0 (V1 m) c) (V1 m c) (by decide) 3).symm.trans ?_
    show _ = V2 m (outs m) c (Proc.devRef .tc main_v1_1)
    simp only [V2, Function.update_self]
    rfl
theorem V3_arr (c : Dev nD) (w : Fin 2) : (dat1 (Vmid m) c).arrAt w cfg1.N = V3 m (outs m) c (Proc.devRef .tc (Pipeline.arrRef spec1 w)) := by
  fin_cases w
  · refine ((dat1 (Vmid m) c).arrAt_in 0 rfl _).trans ?_
    exact (V3_of m (outs m) c main_v1_0 (by decide)).symm
  · refine (Pipeline.afterRegion_arr (dat1 (Vmid m) c) (Vmid m c) (by decide) 1).symm.trans ?_
    show _ = V3 m (outs m) c (Proc.devRef .tc main_v2)
    simp only [V3, Function.update_self]
    rfl

def R0 : RegionSeg (pcfgs (F := F)) adm (pdats m) () defs₀ 𝒱₀ L lv 0 :=
  Pipeline.RegionSeg.ofHeldDH (pcfgs (F := F)) adm (pdats m) () defs₀ 𝒱₀ L lv 0 (fun _ => 0) () osem ownSemFacts {main_arg0} Sr0 hHS
    launch0.toP rfl (fun c => (obligation0 (V1 m) c).loose) (fun _ _ => rfl) (fun _ => rfl) (fun c => (dat0 (V1 m) c).share_full fun _ => rfl)
    (fun c => (show (levAts L lv : sProp 𝕄) ⊢ BI.emp from by iintro -; iempintro).trans (Transfers.MayWaits.zero _ _))
    (V1 m) (V2 m (outs m)) (entry0 (V1 m)) (exit0 (V1 m)) (fun _ => 0) (hcut 0) (fun _ => iprop(emp))
    (fun c w => rfl) (V2_arr m)

def R1 : RegionSeg (pcfgs (F := F)) adm (pdats m) () defs₀ 𝒱₀ L lv 1 :=
  Pipeline.RegionSeg.ofHeld (pcfgs (F := F)) adm (pdats m) () defs₀ 𝒱₀ L lv 1 (fun _ => 0)
    (fun c => iprop(∃ g, prngReg c g)) (fun c => iprop(∃ g, prngReg c g))
    launch1.toP rfl (fun c => (obligation1 (Vmid m) c).loose) (fun _ _ => rfl) (fun _ => rfl) (fun c => (dat1 (Vmid m) c).share_full fun _ => rfl)
    (fun c => .rfl) (fun c => .rfl) (fun _ => 0) (hcut 1)
    (fun c => StableHlo.held (c : Thread nD τ) Sr1 (V2 m (outs m) c)) (V2 m (outs m)) (V3 m (outs m))
    (fun c w => rfl) (V3_arr m)

theorem hpre0 (c : Dev nD) : iprop(StableHlo.held (c : Thread nD τ) (Pipeline.ucRefs τ sig) (V1 m c) ∗ E 0 c) ⊢ (R0 m).pre c := by
  show _ ⊢ iprop(StableHlo.held (c.tc : Thread nD τ) (Pipeline.arrRefs spec0) (V1 m c) ∗ (∃ r, prngReg c r)
      ∗ (StableHlo.held (c.tc : Thread nD τ) Sr0 (V1 m c) ∗ emp) ∗ ∃ Wd, owes (c : Thread nD τ) 0 Wd)
  rw [StableHlo.held_sub_split (c.tc : Thread nD τ) sub0 (V1 m c)]
  iintro ⟨⟨Ha, Hr⟩, Hp, HO⟩
  isplitl [Ha]; · iexact Ha
  isplitl [Hp]; · iexact Hp
  isplitl [Hr]
  · isplitl [Hr]; · iexact Hr
    iempintro
  iexact HO

theorem hpost0 (c : Dev nD) : (R0 m).post c ⊢ iprop(StableHlo.held (c : Thread nD τ) (Pipeline.ucRefs τ sig) (V2 m (outs m) c) ∗ E 1 c) := by
  show iprop(StableHlo.held (c.tc : Thread nD τ) (Pipeline.arrRefs spec0) (V2 m (outs m) c) ∗ (∃ r, prngReg c r)
      ∗ (StableHlo.held (c.tc : Thread nD τ) Sr0 (V1 m c) ∗ emp) ∗ ∃ Wd, owes (c : Thread nD τ) 0 Wd) ⊢ _
  rw [StableHlo.held_sub_split (c.tc : Thread nD τ) sub0 (V2 m (outs m) c), StableHlo.held_congr (c.tc : Thread nD τ) (off0 m c)]
  iintro ⟨Ha, Hp, ⟨Hr, -⟩, HO⟩
  isplitl [Ha Hr]
  · isplitl [Ha]; · iexact Ha
    iexact Hr
  isplitl [Hp]; · iexact Hp
  iexact HO

theorem hpre1 (c : Dev nD) : iprop(StableHlo.held (c : Thread nD τ) (Pipeline.ucRefs τ sig) (V2 m (outs m) c) ∗ E 1 c) ⊢ (R1 m).pre c := by
  show _ ⊢ iprop(StableHlo.held (c.tc : Thread nD τ) (Pipeline.arrRefs spec1) (V2 m (outs m) c) ∗ (∃ g, prngReg c g)
      ∗ StableHlo.held (c.tc : Thread nD τ) Sr1 (V2 m (outs m) c) ∗ ∃ Wd, owes (c : Thread nD τ) 0 Wd)
  rw [StableHlo.held_sub_split (c.tc : Thread nD τ) sub1 (V2 m (outs m) c)]
  iintro ⟨⟨Ha, Hr⟩, Hp, HO⟩
  isplitl [Ha]; · iexact Ha
  isplitl [Hp]; · iexact Hp
  isplitl [Hr]; · iexact Hr
  iexact HO

theorem hpost1 (c : Dev nD) : (R1 m).post c ⊢ iprop(StableHlo.held (c : Thread nD τ) (Pipeline.ucRefs τ sig) (V3 m (outs m) c) ∗ E 2 c) := by
  show iprop(StableHlo.held (c.tc : Thread nD τ) (Pipeline.arrRefs spec1) (V3 m (outs m) c) ∗ (∃ g, prngReg c g)
      ∗ StableHlo.held (c.tc : Thread nD τ) Sr1 (V2 m (outs m) c) ∗ ∃ Wd, owes (c : Thread nD τ) 0 Wd) ⊢ _
  rw [StableHlo.held_sub_split (c.tc : Thread nD τ) sub1 (V3 m (outs m) c), StableHlo.held_congr (c.tc : Thread nD τ) (off1 m c)]
  iintro ⟨Ha, Hp, Hr, HO⟩
  isplitl [Ha Hr]
  · isplitl [Ha]; · iexact Ha
    iexact Hr
  isplitl [Hp]; · iexact Hp
  iexact HO

/-! ## The results, off the last valuation -/

/-- The scan's last state on core `c`. -/
abbrev SN (c : Dev nD) : ScanSt F := ST (V1 m) c grid0.N

theorem V2_idx (c : Dev nD) : V2 m (outs m) c (Proc.devRef .tc main_v1_0) = (SN m c).idx :=
  (V2_arr m c 2).symm.trans (final0_2 (V1 m) c)
theorem V3_lp (c : Dev nD) : V3 m (outs m) c (Proc.devRef .tc main_v1_1) = (SN m c).lp :=
  (V3_of m (outs m) c main_v1_1 (by decide)).trans ((V2_arr m c 3).symm.trans (final0_3 (V1 m) c))
theorem V3_fill (c : Dev nD) : V3 m (outs m) c (Proc.devRef .tc main_v2) = fillOf (SN m c).idx :=
  (V3_arr m c 1).symm.trans ((final1_1 (Vmid m) c).trans (congrArg fillOf (V2_idx m c)))

def u₀ : Pipeline.UD sig nD τ := (initOf (Pipeline.cells cfgs cellOf_inj) (Pipeline.launchToks cfgs cellOf_inj), 1)

theorem launchU : (ownU u₀ : sProp 𝕄) ⊢ |={Set.univ}=> iprop(BI.own (EP (initOf (Pipeline.cells cfgs cellOf_inj) (Pipeline.launchToks cfgs cellOf_inj)))
    ∗ bigSep Finset.univ (fun _ : Dev nD => (BI.emp : sProp 𝕄))) := by
  unfold u₀
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

variable (ρ : Dev nD → PrngReg)

theorem launchE : iprop((bigSep Finset.univ fun c : Dev nD => iprop(unscopedSems0 c ∗ owes (c : Thread nD τ) (0 : CellTallies nD τ sig Unit) ∅
        ∗ Pipeline.launchCred (fun _ : Dev nD => (0 : CellTallies nD τ sig Unit)) c ∗ prngReg c (ρ c) ∗ (BI.emp : sProp 𝕄))) ∗ levAts L lv)
      ⊢ (|={Set.univ}=> bigSep Finset.univ (E 0) : sProp 𝕄) := by
  refine Pipeline.initEach L lv fun c => ?_
  iintro ⟨⟨-, HO, -, Hp, -⟩, -⟩
  imodintro
  isplitl [Hp]; · iexists _; iexact Hp
  iexists _; iexact HO

/-- The results and the arguments on core `c` in a memory. -/
def Post (c : Dev nD) (mem : (ℓ : Loc nD τ sig) → Buf (Elt F) ℓ) : Prop :=
  mem ((c.tc : Thread nD τ).loc main_v2) = fillOf (SN m c).idx ∧ mem ((c.tc : Thread nD τ).loc main_v1_1) = (SN m c).lp
    ∧ mem ((c.tc : Thread nD τ).loc main_arg0) = m ((c.tc : Thread nD τ).loc main_arg0)
    ∧ mem ((c.tc : Thread nD τ).loc main_arg1) = m ((c.tc : Thread nD τ).loc main_arg1)

set_option backward.isDefEq.respectTransparency.types false in
/-- Every execution of the program from memory `m` ends; the first result is the array filled at the last scan state's
positions, the second its entries; the arguments are unchanged and every counter is zero. -/
theorem run : θ_run defs (onTc (τ := τ) (main (F := F))) ⟨m, fun _ => 0, ρ⟩ (fun r => (∀ c : Dev nD, Post m c r.2.mem) ∧ r.2.sem = fun _ => 0) := by
  refine Pipeline.θ_run_regions_kit_dev_sems (pcfgs (F := F)) adm (pdats m) () cellOf_inj EP defs₀ 𝒱₀ L lv m ρ main
    (segs m 𝒱₀ L lv E () (pdats m) (R0 m) (R1 m))
    (fun c Q => by
      rewrite [main_chain c, Seg.run_eq_chain,
        show (segs m 𝒱₀ L lv E () (pdats m) (R0 m) (R1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0)
    (fun g h => if_neg h) (fun _ => iprop(emp)) u₀ launchU
    (T₀ := fun c => iprop(StableHlo.held (c : Thread nD τ) (Pipeline.ucRefs τ sig) (V0 m c) ∗ E 0 c))
    (Tₙ := fun c => iprop(StableHlo.held (c : Thread nD τ) (Pipeline.ucRefs τ sig) (V3 m (outs m) c)))
    (hch := fun c => ⟨.rfl, hpre0 m c, (hpost0 m c).trans (hpre1 m c), (hpost1 m c).trans (sep_mono .rfl (by iintro ⟨-, H⟩; iexact H))⟩)
    (hinit := ?_) (QY := fun c s => Post m c s.mem) (hfin := fun c s' => ?_)
    (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ : Dev nD => (0 : CellTallies nD τ sig Unit)) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ : Dev nD => (0 : CellTallies nD τ sig Unit)) c ∗ prngReg c (ρ c) ∗ (BI.emp : sProp 𝕄)))
            : sProp 𝕄) := by
      rw [← bigSep_sep']
      exact bigSep_mono fun c _ => by rw [← Pipeline.unscopedBufs_held (Ix := Unit) (Name := ℕ) (U := Pipeline.UD sig nD τ) (Lvl := ℕ) c (V0 m c)]; exact BI.Entails.refl _
    iintro ⟨H, Hla⟩
    ihave H' := hsplit $$ H
    icases H' with ⟨Hh, Hr⟩
    imod (launchE ρ) $$ [Hr Hla] with HE
    · isplitl [Hr]; · iexact Hr
      iexact Hla
    imodintro
    iapply (entails_of_eq (bigSep_sep' (M := MT nD τ sig Unit (Elt F) ℕ (Pipeline.UD sig nD τ) ℕ) Finset.univ (Φ := fun c : Dev nD => StableHlo.held (c : Thread nD τ) (Pipeline.ucRefs τ sig) (V0 m c)) (Ψ := E 0)).symm)
    isplitl [Hh]; · iexact Hh
    iexact HE
  · unfold StableHlo.held
    iintro ⟨Hh, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨(h (Proc.devRef .tc main_v2) (Finset.mem_filter.mpr ⟨StableHlo.devRef_mem_tcRefs main_v2, by decide⟩)).trans (V3_fill m c),
        (h (Proc.devRef .tc main_v1_1) (Finset.mem_filter.mpr ⟨StableHlo.devRef_mem_tcRefs main_v1_1, by decide⟩)).trans (V3_lp m c),
        (h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c)⟩
    · iexact HSI

end Cert.KernelIdeal.Own

end
-- ==== Proof.Twin.lean ====
/-
  The program as printed for bits and the one printed for the ideal reading are one text: no operation was rewritten. So the
  run proved of the second, over any float operations, is the first's too.
-/
module

public import proofs.«01_k».proof.Proof.Run
public import proofs.«01_k».proof.Proof.Gen.Kernel

@[expose] public section

set_option maxRecDepth 16384

noncomputable section

namespace Cert.KernelIdeal.Own

open Idealize.ShloMosaic Idealize.SL.Sem

variable {F : FTy → Type} [FloatOps F]

theorem pcfgs_twin : Cert.Kernel.pcfgs (F := F) = Cert.KernelIdeal.pcfgs (F := F) := funext fun p => match p with
  | 0 => rfl
  | 1 => rfl

theorem defs₀_twin : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | 1, (t, s) => rfl

theorem defs_heq {p p' : Fin 2 → Pipeline.PCfg sig Λ₀ (Elt F)} (hp : p = p') {d d' : Defs nD τ sig (Elt F) Λ₀} (hd : d = d') :
    HEq (Pipeline.defs p d) (Pipeline.defs p' d') := by
  subst hp hd; rfl

theorem defs_twin : Cert.Kernel.defs (F := F) = Cert.KernelIdeal.defs (F := F) := eq_of_heq (defs_heq pcfgs_twin defs₀_twin)

theorem main_twin : Cert.Kernel.main (F := F) = Cert.KernelIdeal.main (F := F) := rfl

theorem run_kernel (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_twin, main_twin]
  exact (θ_run Cert.KernelIdeal.defs _ _).mono (fun _ h => ⟨fun c => (h.1 c).2.2, h.2⟩) (run (F := F) m ρ)

end Cert.KernelIdeal.Own

end
-- ==== Proof.Frames.lean ====
/-
  The three frames: the kernel over bits, the kernel read ideally, the reference read ideally.
-/
module

public import proofs.«01_k».proof.Defs
public import proofs.«01_k».proof.Proof.Twin
public import proofs.«01_k».proof.Proof.Gen.ReferenceIdeal.Run
public import Idealize.ShloMosaic.Lib.Quiescent

@[expose] public section

noncomputable section

namespace Cert.Proof

open Idealize.ShloMosaic Idealize.SL.Sem

theorem frame_kernel : Cert.quiescent_Kernel := fun m ρ _ => Cert.KernelIdeal.Own.run_kernel (F := Bits) m ρ

theorem frame_kernelIdeal : Cert.quiescent_KernelIdeal := fun m ρ _ =>
  (θ_run Cert.KernelIdeal.defs _ _).mono (fun _ h => ⟨fun c => (h.1 c).2.2, h.2⟩) (Cert.KernelIdeal.Own.run (F := Ideal) m ρ)

theorem frame_referenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Proof

end
-- ==== Proof.Chunks.lean ====
/-
  The block's position and entry, chunk by chunk: the kernel's sixteen chunks of 128 columns as one recursion.
-/
module

public import proofs.«01_k».proof.Proof.ScanStep

@[expose] public section

set_option maxRecDepth 16384

noncomputable section

namespace Cert.KernelIdeal.Own

open Cert.KernelIdeal Cert.KernelIdeal.Gen
open Idealize.ShloMosaic

variable {F : FTy → Type} [FloatOps F]

theorem chunk_slices (k : ℕ) : S128x2048.Slices ![0, 128 * (k % 16)] S128x128 := by
  have h : ∀ n < 16, S128x2048.Slices ![0, 128 * n] S128x128 := by decide
  exact h _ (Nat.mod_lt _ (by decide))

/-- Columns `128k` to `128k + 127`. -/
def chunk {e : EltTy} (k : ℕ) (v : S128x2048.Idx → Elt F e) : S128x128.Idx → Elt F e :=
  extractStridedSlice S128x128 ![0, 128 * (k % 16)] v (chunk_slices k)

/-- A chunk's sum along its columns. -/
def rowSum (v : FVec F S128x128 .f32) : FVec F S128x1 .f32 :=
  shapeCast S128x1 (multiReduction .add [1] S128 v 0x00000000#32 reduces_S128x128_S128 (.inl rfl) rfl) shapeCasts_S128_S128x1

def rowCount (v : IVec S128x128 1) : IVec S128 32 :=
  multiReductionI .add [1] S128 (extui 32 v natLt_1_32) 0#32 reduces_S128x128_S128 rfl

/-- The sum of the first `k` chunks. -/
def sumTo (v40 : FVec F S128x2048 .f32) : ℕ → FVec F S128x1 .f32
  | 0 => broadcast S128x1 (Scalar.ofBits .f32 0x00000000#32)
  | k + 1 => addf (sumTo v40 k) (rowSum (chunk (F := F) (e := .f32) k v40))

/-- The running sums within chunk `k`. -/
def running (v40 : FVec F S128x2048 .f32) (v43 : Vec F S128x1 .f32) (k : ℕ) : FVec F S128x128 .f32 :=
  addf (matmul dot_S128x128_S128x128_S128x128_1_0_0_1_n_n none (chunk (F := F) (e := .f32) k v40) (k0_pay10 (F := F)) (constant S128x128 .f32 0x00000000#32))
    (broadcastTo S128x128 (addf (sumTo v40 k) v43) broadcasts_S128x1_S128x128)

/-- Which columns of chunk `k` lie below the threshold. -/
def belowAt (v22 : Vec F S128x1 .f32) (v37 : IVec S128x2048 1) (v40 : FVec F S128x2048 .f32) (v43 : Vec F S128x1 .f32) (k : ℕ) : IVec S128x128 1 :=
  andi (cmpf .olt (running v40 v43 k) (broadcastTo S128x128 v22 broadcasts_S128x1_S128x128)) (chunk (F := F) (e := .i1) k v37)

/-- How many columns of the first `k` chunks lie below. -/
def countTo (v22 : Vec F S128x1 .f32) (v37 : IVec S128x2048 1) (v40 : FVec F S128x2048 .f32) (v43 : Vec F S128x1 .f32) : ℕ → IVec S128x1 32
  | 0 => broadcast S128x1 0#32
  | k + 1 => addi (countTo v22 v37 v40 v43 k) (shapeCast S128x1 (rowCount (belowAt v22 v37 v40 v43 k)) shapeCasts_S128_S128x1)

/-- The entries of the first `k` chunks at the positions `p`, summed. -/
def pickTo (v31 : FVec F S128x2048 .f32) (p : IVec S128x1 32) : ℕ → FVec F S128x1 .f32
  | 0 => broadcast S128x1 (Scalar.ofBits .f32 0x00000000#32)
  | k + 1 => addf (pickTo v31 p k) (rowSum (select
      (cmpi .eq (addi (broadcast S128x128 (BitVec.ofNat 32 (128 * (k % 16)))) (iota .tc S128x128 32 [1] iota_S128x128_d1_w32)) (broadcastTo S128x128 p broadcasts_S128x1_S128x128))
      (chunk (F := F) (e := .f32) k v31) (broadcast S128x128 (Scalar.ofBits .f32 0x00000000#32))))

theorem posOf_eq (v22 : Vec F S128x1 .f32) (v37 : IVec S128x2048 1) (v40 : FVec F S128x2048 .f32) (v43 : Vec F S128x1 .f32) :
    posOf v22 v37 v40 v43 = countTo v22 v37 v40 v43 16 := rfl

theorem lpOf_eq (v22 : Vec F S128x1 .f32) (v31 : FVec F S128x2048 .f32) (v37 : IVec S128x2048 1) (v40 : FVec F S128x2048 .f32) (v43 : Vec F S128x1 .f32) :
    lpOf v22 v31 v37 v40 v43 = select (cmpf .one (pickTo v31 (posOf v22 v37 v40 v43) 16) (pickTo v31 (posOf v22 v37 v40 v43) 16))
      (broadcast S128x1 (Scalar.ofBits .f32 0x00000000#32)) (pickTo v31 (posOf v22 v37 v40 v43) 16) := rfl

end Cert.KernelIdeal.Own

end
-- ==== Proof.RowMath.lean ====
/-
  One row: its entries' weights `e j`, all at least 0, their running sums, and the first column whose running sum reaches
  the threshold `r`. What is known of a row after `n` columns, and how a block of `L` more columns changes it.
-/
module

public import Mathlib.Data.EReal.Operations
public import Mathlib.Algebra.BigOperators.Group.Finset.Basic
public import Mathlib.Algebra.Order.BigOperators.Group.Finset
public import Mathlib.Data.Nat.Count

@[expose] public section

noncomputable section

namespace Cert.Row

open Finset

/-- The running sum of the first `n` weights. -/
def cum (e : ℕ → EReal) (n : ℕ) : EReal := ∑ j ∈ range n, e j

variable {e : ℕ → EReal}

theorem cum_mono (he : ∀ j, 0 ≤ e j) : Monotone (cum e) := fun _ _ h =>
  sum_le_sum_of_subset_of_nonneg (range_mono h) fun j _ _ => he j

theorem cum_add (n k : ℕ) : cum e (n + k) = cum e n + ∑ j ∈ range k, e (n + j) := sum_range_add e n k

/-- `p` is the first column, below `n`, whose running sum reaches `r`. -/
structure First (e : ℕ → EReal) (r : EReal) (n p : ℕ) : Prop where
  lt : p < n
  hit : r ≤ cum e (p + 1)
  below : ∀ j < p, cum e (j + 1) < r

/-- What position `i` and entry `l` say of a row after `n` columns, `x` its entries: the first column that reaches the
threshold and the entry there, or 100000 and 0 where none does. -/
def Known (e x : ℕ → EReal) (r : EReal) (n : ℕ) (i : BitVec 32) (l : EReal) : Prop :=
  (∃ p, First e r n p ∧ i = BitVec.ofNat 32 p ∧ l = x p) ∨ ((∀ j < n, cum e (j + 1) < r) ∧ i = 100000#32 ∧ l = 0)

variable {x : ℕ → EReal} {r : EReal} {n : ℕ} {i : BitVec 32} {l : EReal}

theorem known_zero : Known e x r 0 100000#32 0 := .inr ⟨fun _ h => absurd h (Nat.not_lt_zero _), rfl, rfl⟩

theorem First.mono {p m : ℕ} (h : First e r n p) (hm : n ≤ m) : First e r m p := ⟨h.lt.trans_le hm, h.hit, h.below⟩

theorem First.unique {p q m : ℕ} (h : First e r n p) (h' : First e r m q) : p = q := by
  rcases Nat.lt_trichotomy p q with hl | hl | hl
  · exact absurd h.hit (not_le.mpr (h'.below p hl))
  · exact hl
  · exact absurd h'.hit (not_le.mpr (h.below q hl))

/-- A row whose sum has reached the threshold is found, and stays as it is. -/
theorem Known.done {m : ℕ} (h : Known e x r n i l) (hn : 0 < n) (hr : r ≤ cum e n) (hm : n ≤ m) : Known e x r m i l := by
  rcases h with ⟨p, hp, hi, hl⟩ | ⟨hb, _, _⟩
  · exact .inl ⟨p, hp.mono hm, hi, hl⟩
  · have := hb (n - 1) (by omega)
    rw [Nat.sub_add_cancel hn] at this
    exact absurd hr (not_le.mpr this)

/-- A row not found in a block stays as it is. -/
theorem Known.keep (he : ∀ j, 0 ≤ e j) {L : ℕ} (h : Known e x r n i l) (hr : ¬(r ≤ cum e (n + L) ∧ i = 100000#32)) :
    Known e x r (n + L) i l := by
  rcases h with ⟨p, hp, hi, hl⟩ | ⟨hb, hi, hl⟩
  · exact .inl ⟨p, hp.mono (Nat.le_add_right n L), hi, hl⟩
  · refine .inr ⟨fun j hj => lt_of_le_of_lt (cum_mono he hj) ?_, hi, hl⟩
    exact not_le.mp fun h => hr ⟨h, hi⟩

theorem count_lt {P : ℕ → Prop} [DecidablePred P] {d m : ℕ} (hd : d ≤ m) (hP : ∀ q, P q ↔ q < d) : Nat.count P m = d := by
  rw [Nat.count_eq_card_filter_range]
  have : (range m).filter P = range d := by
    ext q; simp only [mem_filter, mem_range, hP]; omega
  rw [this, card_range]

open Classical in
/-- A row found in a block of `L` columns: the number of the block's columns below the threshold is its position there. -/
theorem Known.found (he : ∀ j, 0 ≤ e j) {L m : ℕ} (hL : L ≤ m) (hn : n ≤ 100000) (h : Known e x r n i l) (hL0 : 0 < L)
    (hr : r ≤ cum e (n + L)) (hi : i = 100000#32) :
    ∃ d < L, Nat.count (fun q => cum e (n + q + 1) < r ∧ q < L) m = d
      ∧ Known e x r (n + L) (BitVec.ofNat 32 (n + d)) (x (n + d)) := by
  have hb : ∀ j < n, cum e (j + 1) < r := by
    rcases h with ⟨p, hp, hi', _⟩ | ⟨hb, _, _⟩
    · exfalso
      rw [hi'] at hi
      have := congrArg BitVec.toNat hi
      simp only [BitVec.toNat_ofNat] at this
      have hlt := hp.lt
      rw [Nat.mod_eq_of_lt (by omega), Nat.mod_eq_of_lt (by norm_num)] at this
      omega
    · exact hb
  have hex : ∃ p, r ≤ cum e (p + 1) := ⟨n + L - 1, by rwa [Nat.sub_add_cancel (by omega)]⟩
  obtain ⟨p, hp, hmin⟩ : ∃ p, r ≤ cum e (p + 1) ∧ ∀ j < p, ¬ r ≤ cum e (j + 1) :=
    ⟨Nat.find hex, Nat.find_spec hex, fun j hj => Nat.find_min hex hj⟩
  have hnp : n ≤ p := by
    by_contra hlt
    exact absurd hp (not_le.mpr (hb p (by omega)))
  have hpL : p < n + L := by
    by_contra hge
    exact hmin (n + L - 1) (by omega) (by rwa [Nat.sub_add_cancel (by omega)])
  refine ⟨p - n, by omega, count_lt (by omega) fun q => ⟨fun hq => ?_, fun hq => ⟨not_le.mp (hmin (n + q) (by omega)), by omega⟩⟩, ?_⟩
  · by_contra hge
    exact absurd (hp.trans (cum_mono he (by omega : p + 1 ≤ n + q + 1))) (not_le.mpr hq.1)
  · rw [show n + (p - n) = p by omega]
    exact .inl ⟨p, ⟨hpL, hp, fun j hj => not_le.mp (hmin j hj)⟩, rfl, rfl⟩

/-- A whole row's position holds a column exactly where that column is the first to reach the threshold. -/
theorem Known.idx_iff (h : Known e x r 100000 i l) {j : ℕ} (hj : j < 100000) : BitVec.ofNat 32 j = i ↔ First e r 100000 j := by
  have inj : ∀ a b : ℕ, a ≤ 100000 → b ≤ 100000 → BitVec.ofNat 32 a = BitVec.ofNat 32 b → a = b := fun a b ha hb h => by
    have := congrArg BitVec.toNat h
    rwa [BitVec.toNat_ofNat, BitVec.toNat_ofNat, Nat.mod_eq_of_lt (by omega), Nat.mod_eq_of_lt (by omega)] at this
  rcases h with ⟨p, hp, hi, _⟩ | ⟨hb, hi, _⟩
  · subst hi
    refine ⟨fun h => ?_, fun h => by rw [h.unique hp]⟩
    rw [inj j p hj.le hp.lt.le h]
    exact hp
  · subst hi
    exact ⟨fun h => absurd (inj j 100000 hj.le le_rfl h) (by omega), fun h => absurd h.hit (not_le.mpr (hb j hj))⟩

open Classical in
/-- A whole row's entry, as a sum over its columns of which at most one counts. -/
theorem Known.entry (h : Known e x r 100000 i l) : l = ∑ j : Fin 100000, if First e r 100000 j.val then x j.val else 0 := by
  rcases h with ⟨p, hp, _, hl⟩ | ⟨hb, _, hl⟩
  · rw [hl, Finset.sum_eq_single ⟨p, hp.lt⟩]
    · exact (if_pos hp).symm
    · exact fun j _ hj => if_neg fun h => hj (Fin.ext (h.unique hp))
    · exact fun h => absurd (Finset.mem_univ _) h
  · rw [hl]
    exact (Finset.sum_eq_zero fun j _ => if_neg fun h => absurd h.hit (not_le.mpr (hb j.val j.isLt))).symm

end Cert.Row

end
-- ==== Proof.ScanRead.lean ====
/-
  What one point of the scan computes at the real numbers, entry by entry: the block's entries and weights, their running
  sums, the count of columns below the threshold, and the entry picked at a position.
-/
module

public import proofs.«01_k».proof.Proof.Chunks
public import proofs.«01_k».proof.Proof.RowMath
public import proofs.«01_k».proof.Proof.ScanRegion
public import Idealize.ShloMosaic.Lib.Pointwise
public import Idealize.ShloMosaic.Lib.Routing.Count
public import Mathlib.Algebra.BigOperators.Fin

@[expose] public section

set_option maxRecDepth 16384

noncomputable section

namespace Cert.KernelIdeal.Own

open Cert.KernelIdeal Cert.KernelIdeal.Gen Cert.Row
open Idealize.ShloMosaic

/-- Row `b`'s entries, and their weights; both 0 from column 100000 on. -/
def ent (X : S128x100000.Idx → EReal) (b : Fin 128) (j : ℕ) : EReal := if h : j < 100000 then X (ix2 b ⟨j, h⟩) else 0
def wt (X : S128x100000.Idx → EReal) (b : Fin 128) (j : ℕ) : EReal := if j < 100000 then Ideal.exp (ent X b j) else 0

theorem exp_nonneg (x : EReal) : 0 ≤ Ideal.exp x := by
  induction x with
  | bot => exact le_of_eq (by simp)
  | top => simp
  | coe x => simpa using (Real.exp_pos x).le

theorem wt_nonneg (X : S128x100000.Idx → EReal) (b : Fin 128) (j : ℕ) : 0 ≤ wt X b j := by
  unfold wt; split
  · exact exp_nonneg _
  · exact le_rfl

/-- A column's position in the whole row, as a word. -/
theorem col_word (t q : ℕ) : IntOp.addi (Scalar.muli (BitVec.ofNat 32 t) 2048#32) (BitVec.ofNat 32 q) = BitVec.ofNat 32 (2048 * t + q) := by
  show BitVec.ofNat 32 t * 2048#32 + BitVec.ofNat 32 q = _
  rw [Nat.mul_comm, BitVec.ofNat_add, BitVec.ofNat_mul]

theorem toInt_small {a : ℕ} (ha : a < 2 ^ 31) : (BitVec.ofNat 32 a).toInt = a := by
  have h : (BitVec.ofNat 32 a).toNat = a := by rw [BitVec.toNat_ofNat]; exact Nat.mod_eq_of_lt (by omega)
  rw [BitVec.toInt_eq_toNat_of_lt (by rw [h]; omega), h]

theorem slt_ofNat {a b : ℕ} (ha : a < 2 ^ 31) (hb : b < 2 ^ 31) : IntOp.cmpi .slt (BitVec.ofNat 32 a) (BitVec.ofNat 32 b) = BitVec.ofBool (decide (a < b)) := by
  show BitVec.ofBool (BitVec.slt _ _) = _
  congr 1
  rw [BitVec.slt_eq_decide, toInt_small ha, toInt_small hb]
  simp

theorem sle_ofNat {a b : ℕ} (ha : a < 2 ^ 31) (hb : b < 2 ^ 31) : IntOp.cmpi .sle (BitVec.ofNat 32 a) (BitVec.ofNat 32 b) = BitVec.ofBool (decide (a ≤ b)) := by
  show BitVec.ofBool (BitVec.sle _ _) = _
  congr 1
  rw [BitVec.sle_eq_decide, toInt_small ha, toInt_small hb]
  simp

theorem eq_ofNat {a b : ℕ} (ha : a < 2 ^ 32) (hb : b < 2 ^ 32) : IntOp.cmpi .eq (BitVec.ofNat 32 a) (BitVec.ofNat 32 b) = BitVec.ofBool (decide (a = b)) := by
  show BitVec.ofBool _ = _
  congr 1
  rw [Bool.eq_iff_iff]
  simp only [beq_iff_eq, decide_eq_true_eq]
  constructor
  · intro h
    have := congrArg BitVec.toNat h
    rwa [BitVec.toNat_ofNat, BitVec.toNat_ofNat, Nat.mod_eq_of_lt ha, Nat.mod_eq_of_lt hb] at this
  · rintro rfl; rfl

theorem select_ofBool {α : Type} (p : Prop) [Decidable p] (a b : α) : Scalar.select (BitVec.ofBool (decide p)) a b = if p then a else b := by
  by_cases h : p <;> simp [h, Scalar.select]

section Block
variable (X : S128x100000.Idx → EReal) (tail : Vec Ideal S128x1696 .f32) (blk : Vec Ideal S1x128x2048 .f32) (t : ℕ)

/-- What the point reads: the tail's columns, and before the last point its block's. -/
structure Reads : Prop where
  le : t ≤ 48
  tail : ∀ (b : Fin 128) (q : Fin 1696), tail (ix2 b q) = X (ix2 b ⟨98304 + q.val, by omega⟩)
  blk : ∀ (h : t < 48) (b : Fin 128) (q : Fin 2048), blk (ix3 0 b q) = X (ix2 b ⟨2048 * t + q.val, by omega⟩)

variable {X tail blk t} (H : Reads X tail blk t)
include H

theorem pay57_at (b : Fin 128) (q : Fin 2048) : k0_pay57 (BitVec.ofNat 32 t) tail blk (ix2 b q) = ent X b (2048 * t + q.val) := by
  pointwise [k0_pay57]
  have hle := H.le
  have hq := q.isLt
  unfold ent
  rw [show Scalar.cmpi .eq (BitVec.ofNat 32 t) 48#32 = BitVec.ofBool (decide (t = 48)) from eq_ofNat (by omega) (by norm_num), select_ofBool]
  by_cases h48 : t = 48
  · subst h48
    rw [if_pos rfl]
    by_cases hl : q.val < 1696
    · rw [dif_pos hl, dif_pos (by omega), H.tail b ⟨q.val, hl⟩]
    · rw [dif_neg hl, dif_neg (by omega)]
  · rw [if_neg h48, dif_pos (by omega), H.blk (by omega)]

theorem pay58_at (b : Fin 128) (q : Fin 2048) : k0_pay58 (BitVec.ofNat 32 t) (ix2 b q) = BitVec.ofBool (decide (2048 * t + q.val < 100000)) := by
  pointwise [k0_pay58]
  have hle := H.le
  rw [col_word, slt_ofNat (by omega) (by omega)]

theorem pay59_at (b : Fin 128) (q : Fin 2048) : k0_pay59 (BitVec.ofNat 32 t) tail blk (ix2 b q) = wt X b (2048 * t + q.val) := by
  have h := pay57_at H b q
  pointwise [k0_pay57] at h
  pointwise [k0_pay59, k0_pay57, k0_pay58]
  have hle := H.le
  rw [h, col_word, slt_ofNat (by omega) (by omega), select_ofBool]
  rfl

omit H in
theorem rowSum_at (v : FVec Ideal S128x128 .f32) (b : Fin 128) : rowSum v (ix2 b 0) = ∑ x : Fin 128, v (ix2 b x) := by
  pointwise [rowSum]

omit H in
theorem chunk_at {e : EltTy} (k : ℕ) (hk : k < 16) (v : S128x2048.Idx → Elt Ideal e) (b l : Fin 128) :
    chunk k v (ix2 b l) = v (ix2 b ⟨128 * k + l.val, by omega⟩) := by
  have h := Nat.mod_eq_of_lt hk
  pointwise [chunk]
  congr 1
  simp only [h]

theorem chunk_wt (k : ℕ) (hk : k < 16) (b l : Fin 128) :
    chunk (F := Ideal) (e := .f32) k (k0_pay59 (BitVec.ofNat 32 t) tail blk) (ix2 b l) = wt X b (2048 * t + 128 * k + l.val) := by
  rw [chunk_at k hk, pay59_at H, Nat.add_assoc]

theorem sumTo_at (b : Fin 128) (k : ℕ) (hk : k ≤ 16) :
    sumTo (k0_pay59 (BitVec.ofNat 32 t) tail blk) k (ix2 b 0) = ∑ j ∈ Finset.range (128 * k), wt X b (2048 * t + j) := by
  induction k with
  | zero => unfold sumTo; pointwise; simp
  | succ k ih =>
    unfold sumTo
    show sumTo _ k (ix2 b 0) + rowSum _ (ix2 b 0) = _
    rw [ih (by omega), rowSum_at, Nat.mul_succ, Finset.sum_range_add, ← Fin.sum_univ_eq_sum_range (fun l => wt X b (2048 * t + (128 * k + l)))]
    congr 1
    refine Finset.sum_congr rfl fun l _ => ?_
    rw [chunk_wt H k (by omega), Nat.add_assoc]

omit H in
theorem sitofp_one : FloatOps.sitofp (F := Ideal) .f32 (BitVec.setWidth 32 (BitVec.ofBool true)) = (1 : EReal) := by
  show (((1#32 : BitVec 32).toInt : ℝ) : EReal) = 1
  rw [show (1#32 : BitVec 32).toInt = 1 from by decide]
  simp

omit H in
theorem sitofp_zero : FloatOps.sitofp (F := Ideal) .f32 (BitVec.setWidth 32 (BitVec.ofBool false)) = (0 : EReal) := by
  show (((0#32 : BitVec 32).toInt : ℝ) : EReal) = 0
  rw [show (0#32 : BitVec 32).toInt = 0 from by decide]
  simp

theorem running_at (b : Fin 128) (w : Vec Ideal S128x1 .f32) (hw : w (ix2 b 0) = cum (wt X b) (2048 * t)) (k : ℕ) (hk : k < 16) (l : Fin 128) :
    running (k0_pay59 (BitVec.ofNat 32 t) tail blk) w k (ix2 b l) = cum (wt X b) (2048 * t + 128 * k + l.val + 1) := by
  have hl := l.isLt
  pointwise [running, k0_pay10]
  rw [sumTo_at H b k (by omega), hw, add_comm (∑ j ∈ Finset.range (128 * k), _), ← cum_add, Nat.add_assoc (2048 * t + 128 * k), cum_add _ (l.val + 1), add_comm]
  congr 1
  have e : ∀ x : Fin 128, chunk (F := Ideal) (e := .f32) k (k0_pay59 (BitVec.ofNat 32 t) tail blk) (ix2 b x)
      * FloatOps.sitofp (F := Ideal) .f32 (BitVec.setWidth 32 (IntOp.cmpi .sle (BitVec.ofNat 32 x.val) (BitVec.ofNat 32 l.val)))
      = if x.val < l.val + 1 then wt X b (2048 * t + 128 * k + x.val) else 0 := fun x => by
    rw [chunk_wt H k hk, sle_ofNat (by omega) (by omega)]
    by_cases h : x.val ≤ l.val
    · rw [if_pos (by omega), decide_eq_true h]
      exact (congrArg (_ * ·) sitofp_one).trans (mul_one _)
    · rw [if_neg (by omega), decide_eq_false h]
      exact (congrArg (_ * ·) sitofp_zero).trans (mul_zero _)
  rw [Finset.sum_congr rfl fun x _ => e x, Fin.sum_univ_eq_sum_range (fun x => if x < l.val + 1 then wt X b (2048 * t + 128 * k + x) else 0),
    ← Finset.sum_filter]
  congr 1
  ext j; simp only [Finset.mem_filter, Finset.mem_range]; omega

omit H in
theorem fold_count {m : ℕ} (P : ℕ → Prop) [DecidablePred P] (f : Fin m → BitVec 32) (hf : ∀ x : Fin m, f x = if P x.val then 1#32 else 0#32) :
    Finset.fold IntOp.addi 0#32 f Finset.univ = BitVec.ofNat 32 (Nat.count P m) := by
  have h : ∀ s : Finset (Fin m), Finset.fold IntOp.addi 0#32 f s = BitVec.ofNat 32 (s.filter fun x => P x.val).card := fun s => by
    induction s using Finset.induction_on with
    | empty => rfl
    | insert a s ha ih =>
      rw [Finset.fold_insert ha, ih, hf, Finset.filter_insert]
      split
      · rw [Finset.card_insert_of_notMem (fun h => ha (Finset.mem_filter.1 h).1), Nat.add_comm, BitVec.ofNat_add]; rfl
      · exact BitVec.zero_add _
  rw [h, Routing.card_filter_fin]

/-- How many columns the point's block has. -/
abbrev len (t : ℕ) : ℕ := min 2048 (100000 - 2048 * t)

open Classical in
theorem belowAt_at (r : Vec Ideal S128x1 .f32) (b : Fin 128) (w : Vec Ideal S128x1 .f32) (hw : w (ix2 b 0) = cum (wt X b) (2048 * t)) (k : ℕ) (hk : k < 16) (x : Fin 128) :
    belowAt r (k0_pay58 (BitVec.ofNat 32 t)) (k0_pay59 (BitVec.ofNat 32 t) tail blk) w k (ix2 b x)
      = if cum (wt X b) (2048 * t + (128 * k + x.val) + 1) < r (ix2 b 0) ∧ 128 * k + x.val < len t then 1#1 else 0#1 := by
  have hx := x.isLt
  have hle := H.le
  have hlen : len t = min 2048 (100000 - 2048 * t) := rfl
  have h := running_at H b w hw k hk x
  rw [show 2048 * t + 128 * k + x.val + 1 = 2048 * t + (128 * k + x.val) + 1 by omega] at h
  pointwise [belowAt]
  rw [chunk_at k hk, pay58_at H]
  by_cases h1 : cum (wt X b) (2048 * t + (128 * k + x.val) + 1) < r (ix2 b 0)
  · rw [decide_eq_true (show running _ w k (ix2 b x) < r (ix2 b 0) from h ▸ h1)]
    by_cases h2 : 128 * k + x.val < len t
    · rw [if_pos ⟨h1, h2⟩, decide_eq_true (by show 2048 * t + (128 * k + x.val) < 100000; omega)]; rfl
    · rw [if_neg (fun h => h2 h.2), decide_eq_false (by show ¬ 2048 * t + (128 * k + x.val) < 100000; omega)]; rfl
  · rw [decide_eq_false (show ¬ running _ w k (ix2 b x) < r (ix2 b 0) from h ▸ h1), if_neg (fun h => h1 h.1)]
    exact BitVec.zero_and

open Classical in
theorem countTo_at (r : Vec Ideal S128x1 .f32) (b : Fin 128) (w : Vec Ideal S128x1 .f32) (hw : w (ix2 b 0) = cum (wt X b) (2048 * t)) (k : ℕ) (hk : k ≤ 16) :
    countTo r (k0_pay58 (BitVec.ofNat 32 t)) (k0_pay59 (BitVec.ofNat 32 t) tail blk) w k (ix2 b 0)
      = BitVec.ofNat 32 (Nat.count (fun q => cum (wt X b) (2048 * t + q + 1) < r (ix2 b 0) ∧ q < len t) (128 * k)) := by
  induction k with
  | zero => unfold countTo; pointwise; rw [Nat.count_zero]
  | succ k ih =>
    have ih := ih (by omega)
    unfold countTo
    pointwise [rowCount]
    rw [ih, Nat.mul_succ, Nat.count_add, BitVec.ofNat_add]
    show IntOp.addi _ _ = IntOp.addi _ _
    refine congrArg (IntOp.addi _) (fold_count _ _ fun x => ?_)
    rw [belowAt_at H r b w hw k (by omega)]
    split <;> rfl

theorem pickTo_at (b : Fin 128) (p : IVec S128x1 32) (d : ℕ) (hd : d < 2048) (hp : p (ix2 b 0) = BitVec.ofNat 32 d) (k : ℕ) (hk : k ≤ 16) :
    pickTo (k0_pay57 (BitVec.ofNat 32 t) tail blk) p k (ix2 b 0) = if d < 128 * k then ent X b (2048 * t + d) else 0 := by
  induction k with
  | zero => unfold pickTo; pointwise; simp
  | succ k ih =>
    have ih := ih (by omega)
    unfold pickTo
    pointwise [rowSum]
    rw [ih, hp, Nat.mod_eq_of_lt (show k < 16 by omega)]
    have e : ∀ x : Fin 128, Scalar.select (IntOp.cmpi .eq (IntOp.addi (BitVec.ofNat 32 (128 * k)) (BitVec.ofNat 32 x.val)) (BitVec.ofNat 32 d))
        (chunk (F := Ideal) (e := .f32) k (k0_pay57 (BitVec.ofNat 32 t) tail blk) (ix2 b x)) (0 : EReal)
        = if 128 * k + x.val = d then ent X b (2048 * t + d) else 0 := fun x => by
      rw [show IntOp.addi (BitVec.ofNat 32 (128 * k)) (BitVec.ofNat 32 x.val) = BitVec.ofNat 32 (128 * k + x.val) from (BitVec.ofNat_add _ _).symm,
        eq_ofNat (by omega) (by omega), select_ofBool, chunk_at k (by omega), pay57_at H]
      by_cases h : 128 * k + x.val = d
      · rw [if_pos h, if_pos h]; simp only [h]
      · rw [if_neg h, if_neg h]
    rw [Finset.sum_congr rfl fun x _ => e x]
    by_cases h1 : d < 128 * k
    · rw [if_pos h1, if_pos (by omega), Finset.sum_eq_zero fun x _ => if_neg (by omega), add_zero]
    · rw [if_neg h1, zero_add]
      by_cases h2 : d < 128 * (k + 1)
      · rw [if_pos h2, Finset.sum_eq_single ⟨d - 128 * k, by omega⟩]
        · exact if_pos (by show 128 * k + (d - 128 * k) = d; omega)
        · intro x _ hx
          exact if_neg fun h => hx (Fin.ext (by show x.val = d - 128 * k; omega))
        · intro h; exact absurd (Finset.mem_univ _) h
      · rw [if_neg h2]
        exact Finset.sum_eq_zero fun x _ => if_neg (by omega)

/-- The carry after the point. -/
theorem pay60_at (b : Fin 128) (w : Vec Ideal S128x1 .f32) (hw : w (ix2 b 0) = cum (wt X b) (2048 * t)) :
    k0_pay60 (BitVec.ofNat 32 t) tail blk w (ix2 b 0) = cum (wt X b) (2048 * t + len t) := by
  pointwise [k0_pay60]
  rw [hw, Finset.sum_congr rfl fun x _ => pay59_at H b x, Fin.sum_univ_eq_sum_range (fun q => wt X b (2048 * t + q)), cum_add]
  congr 1
  refine (Finset.sum_subset (Finset.range_mono (Nat.min_le_left _ _)) fun j hj hn => ?_).symm
  have hn : ¬ j < min 2048 (100000 - 2048 * t) := fun h => hn (Finset.mem_range.2 h)
  have hj := Finset.mem_range.1 hj
  exact if_neg (by omega)

theorem pay61_at (r : Vec Ideal S128x1 .f32) (b : Fin 128) (w : Vec Ideal S128x1 .f32) (hw : w (ix2 b 0) = cum (wt X b) (2048 * t)) :
    k0_pay61 (BitVec.ofNat 32 t) r tail blk w (ix2 b 0) = BitVec.ofBool (decide (r (ix2 b 0) ≤ cum (wt X b) (2048 * t + len t))) := by
  have h := pay60_at H b w hw
  pointwise [k0_pay61]
  rw [h]

end Block

end Cert.KernelIdeal.Own

end
-- ==== Proof.ScanValue.lean ====
/-
  The scan over its 49 points at the real numbers: after the last, each row's position and entry are those of the first
  column whose running sum reaches the row's threshold.
-/
module

public import proofs.«01_k».proof.Proof.ScanRead
public import proofs.«01_k».proof.Proof.Run

@[expose] public section

set_option maxRecDepth 16384

noncomputable section

namespace Cert.KernelIdeal.Own

open Cert.KernelIdeal Cert.KernelIdeal.Gen Cert.Row
open Idealize.ShloMosaic Idealize.ShloMosaic.TcCoe

theorem coords_val : ∀ t : Fin grid0.N, (grid0.coords t 0).val = t.val := by decide +kernel

theorem cmpf_gt (x : EReal) : Scalar.cmpf (F := Ideal) .ogt x (Scalar.ofBits .f32 0x00000000#32) = BitVec.ofBool (decide ((0 : EReal) < x)) := by
  rw [show (Scalar.ofBits .f32 0x00000000#32 : Ideal .f32) = (0 : EReal) from Ideal.ofBits_zero_f32]
  rfl

/-- A row hits where its sum has reached the threshold and it has no position yet. -/
theorem hitOf_of (v45 : IVec S128x1 1) (v47 : IVec S128x1 32) (b : Fin 128) (h1 : v45 (ix2 b 0) = 1#1) (h2 : v47 (ix2 b 0) = 100000#32) :
    hitOf (F := Ideal) v45 v47 = 1#1 := by
  have h : (0 : EReal) < k0_pay7 (F := Ideal) v45 v47 := by
    pointwise [k0_pay7, k0_pay4]
    refine (Finset.lt_fold_max _).2 (.inr ⟨(b, 0), Finset.mem_univ _, ?_⟩)
    show (0 : EReal) < Scalar.select (IntOp.andi (v45 (ix2 b 0)) (IntOp.cmpi .eq (v47 (ix2 b 0)) 100000#32)) 1 0
    rw [h1, h2]
    exact zero_lt_one
  unfold hitOf
  rw [show Scalar.cmpf .ogt (k0_pay7 (F := Ideal) v45 v47) (Scalar.ofBits .f32 0x00000000#32) = 1#1 from ?_]
  · decide
  · rw [cmpf_gt]
    exact congrArg BitVec.ofBool (decide_eq_true h)

/-- The flag is raised only where every row's sum has reached its threshold. -/
theorem flag_of (r v : Vec Ideal S128x1 .f32) (h : Scalar.cmpf .ogt (k0_pay6 r v) (Scalar.ofBits .f32 0x00000000#32) ≠ 0#1) (b : Fin 128) :
    r (ix2 b 0) ≤ v (ix2 b 0) := by
  have h : (0 : EReal) < k0_pay6 (F := Ideal) r v := by
    by_contra hn
    refine h ?_
    rw [cmpf_gt]
    exact congrArg BitVec.ofBool (decide_eq_false hn)
  pointwise [k0_pay6] at h
  have h := ((Finset.lt_fold_min _).1 h).2 (b, 0) (Finset.mem_univ _)
  by_contra hn
  rw [if_neg hn] at h
  exact lt_irrefl _ h

theorem pay8_at (i : grid0.Coords) (h : IVec S128x1 1) (x p v : IVec S128x1 32) (b : Fin 128) :
    k0_pay8 (F := Ideal) i h x p 2048#32 v (ix2 b 0)
      = Scalar.select (IntOp.andi (h (ix2 b 0)) (IntOp.cmpi .eq (x (ix2 b 0)) 100000#32)) (IntOp.addi (Scalar.muli (BitVec.ofNat 32 (i 0).val) 2048#32) (p (ix2 b 0))) (v (ix2 b 0)) := by
  pointwise [k0_pay8, k0_pay4]

theorem pay9_at (h : IVec S128x1 1) (x : IVec S128x1 32) (p v : Vec Ideal S128x1 .f32) (b : Fin 128) :
    k0_pay9 (F := Ideal) h x p v (ix2 b 0) = Scalar.select (IntOp.andi (h (ix2 b 0)) (IntOp.cmpi .eq (x (ix2 b 0)) 100000#32)) (p (ix2 b 0)) (v (ix2 b 0)) := by
  pointwise [k0_pay9, k0_pay4]

theorem lpOf_at (r : Vec Ideal S128x1 .f32) (v31 : FVec Ideal S128x2048 .f32) (v37 : IVec S128x2048 1) (v40 : FVec Ideal S128x2048 .f32) (w : Vec Ideal S128x1 .f32) (b : Fin 128) :
    lpOf r v31 v37 v40 w (ix2 b 0) = pickTo v31 (posOf r v37 v40 w) 16 (ix2 b 0) := by
  rw [lpOf_eq]
  generalize pickTo v31 (posOf r v37 v40 w) 16 = v
  pointwise
  exact if_neg (not_not.2 rfl)

section Step
variable {X : S128x100000.Idx → EReal} {tail : Vec Ideal S128x1696 .f32} {blk : Vec Ideal S1x128x2048 .f32}
  (r : Vec Ideal S128x1 .f32) (s : ScanSt Ideal) (more : Bool)

variable (i : grid0.Coords) (H : Reads X tail blk (i 0).val) (b : Fin 128) (hw : s.carry (ix2 b 0) = cum (wt X b) (2048 * (i 0).val))
include H hw

theorem step_carry : (scanStep i r tail blk s more).carry (ix2 b 0) = cum (wt X b) (2048 * (i 0).val + len (i 0).val) := by
  have h := pay60_at H b s.carry hw
  unfold scanStep
  dsimp only
  pointwise [k0_pay5]
  exact h

theorem step_done (h : (scanStep i r tail blk s more).flag ≠ 0#1) : r (ix2 b 0) ≤ cum (wt X b) (2048 * (i 0).val + len (i 0).val) := by
  have h := flag_of r _ h b
  rwa [pay60_at H b s.carry hw] at h

theorem step_known (hk : Known (wt X b) (ent X b) (r (ix2 b 0)) (2048 * (i 0).val) (s.idx (ix2 b 0)) (s.lp (ix2 b 0))) :
    Known (wt X b) (ent X b) (r (ix2 b 0)) (2048 * (i 0).val + len (i 0).val) ((scanStep i r tail blk s more).idx (ix2 b 0))
      ((scanStep i r tail blk s more).lp (ix2 b 0)) := by
  have hle := H.le
  have hlen : len (i 0).val = min 2048 (100000 - 2048 * (i 0).val) := rfl
  have h61 := pay61_at H r b s.carry hw
  have h62 : k0_pay62 (F := Ideal) s.idx (ix2 b 0) = s.idx (ix2 b 0) := by pointwise [k0_pay62]
  unfold scanStep
  dsimp only
  by_cases hc : r (ix2 b 0) ≤ cum (wt X b) (2048 * (i 0).val + len (i 0).val) ∧ s.idx (ix2 b 0) = 100000#32
  · rw [decide_eq_true hc.1] at h61
    have hit := hitOf_of _ (k0_pay62 (F := Ideal) s.idx) b h61 (h62.trans hc.2)
    rw [if_pos hit, if_pos hit]
    obtain ⟨d, hd, hcount, hknown⟩ := hk.found (wt_nonneg X b) (Nat.min_le_left 2048 _) (by omega) (by omega) hc.1 hc.2
    have hpos := countTo_at H r b s.carry hw 16 le_rfl
    rw [← posOf_eq] at hpos
    have hpos := hpos.trans (congrArg (BitVec.ofNat 32) hcount)
    have hpick := pickTo_at H b _ d (by omega) hpos 16 le_rfl
    rw [if_pos (by omega)] at hpick
    have hlp := (lpOf_at r (k0_pay57 (BitVec.ofNat 32 (i 0).val) tail blk) (k0_pay58 (BitVec.ofNat 32 (i 0).val))
      (k0_pay59 (BitVec.ofNat 32 (i 0).val) tail blk) s.carry b).trans hpick
    rw [pay8_at, pay9_at, h61, h62, hc.2, hpos, hlp, col_word]
    exact hknown
  · have hbit : IntOp.andi (k0_pay61 (BitVec.ofNat 32 (i 0).val) r tail blk s.carry (ix2 b 0)) (IntOp.cmpi .eq (k0_pay62 (F := Ideal) s.idx (ix2 b 0)) 100000#32) = 0#1 := by
      rw [h61, h62]
      by_cases h1 : r (ix2 b 0) ≤ cum (wt X b) (2048 * (i 0).val + len (i 0).val)
      · rw [decide_eq_true h1, show IntOp.cmpi .eq (s.idx (ix2 b 0)) 100000#32 = 0#1 from congrArg BitVec.ofBool (beq_eq_false_iff_ne.2 fun h => hc ⟨h1, h⟩)]; rfl
      · rw [decide_eq_false h1]; exact BitVec.zero_and
    have h8 := hk.keep (wt_nonneg X b) hc
    split
    · rw [pay8_at, pay9_at, hbit]; exact h8
    · exact h8

end Step

section Points
variable {X : S128x100000.Idx → EReal} {tail : Vec Ideal S128x1696 .f32} {blk : ℕ → Vec Ideal S1x128x2048 .f32}
  (r : Vec Ideal S128x1 .f32) (H : ∀ t ≤ 48, Reads X tail (blk t) t)
include H

/-- After `k` points: what is known of every row, and of the carry and the flag. -/
theorem st_known (k : ℕ) (hk : k ≤ 49) :
    (∀ b, Known (wt X b) (ent X b) (r (ix2 b 0)) (min (2048 * k) 100000) ((St r tail blk k).idx (ix2 b 0)) ((St r tail blk k).lp (ix2 b 0)))
    ∧ ((St r tail blk k).flag = 0#1 → ∀ b, (St r tail blk k).carry (ix2 b 0) = cum (wt X b) (min (2048 * k) 100000))
    ∧ ((St r tail blk k).flag ≠ 0#1 → 0 < k ∧ ∀ b, r (ix2 b 0) ≤ cum (wt X b) (min (2048 * k) 100000)) := by
  induction k with
  | zero =>
    refine ⟨fun b => ?_, fun _ b => ?_, fun h => absurd rfl h⟩
    · show Known _ _ _ _ (k0_pay2 (ix2 b 0)) (k0_pay3 (F := Ideal) (ix2 b 0))
      have h3 : k0_pay3 (F := Ideal) (ix2 b 0) = (0 : EReal) := by pointwise [k0_pay3]
      have h2 : k0_pay2 (ix2 b 0) = 100000#32 := by pointwise [k0_pay2]
      rw [h2, h3]
      exact known_zero
    · show k0_pay1 (F := Ideal) (ix2 b 0) = _
      have h1 : k0_pay1 (F := Ideal) (ix2 b 0) = (0 : EReal) := by pointwise [k0_pay1]
      rw [h1]
      exact (Finset.sum_range_zero _).symm
  | succ k ih =>
    obtain ⟨hA, hB, hC⟩ := ih (by omega)
    have hN : k < grid0.N := lt_of_lt_of_le (Nat.lt_succ_self k) hk
    have hS := St_succ r tail blk ⟨k, hN⟩
    dsimp only at hS
    rw [hS]
    unfold stepAt
    have hlen : len k = min 2048 (100000 - 2048 * k) := rfl
    split
    next hf =>
      have hB := hB hf
      have e0 : min (2048 * k) 100000 = 2048 * k := by omega
      have e1 : min (2048 * (k + 1)) 100000 = 2048 * k + len k := by omega
      have ec := coords_val ⟨k, hN⟩
      dsimp only at ec
      rw [e0] at hA hB
      rw [e1]
      generalize grid0.coords ⟨k, hN⟩ = i at ec
      subst ec
      have HR := H (i 0).val (by omega)
      exact ⟨fun b => step_known r _ _ i HR b (hB b) (hA b), fun _ b => step_carry r _ _ i HR b (hB b),
        fun h => ⟨by omega, fun b => step_done r _ _ i HR b (hB b) h⟩⟩
    next hf =>
      obtain ⟨h0, hC⟩ := hC hf
      have hle : min (2048 * k) 100000 ≤ min (2048 * (k + 1)) 100000 := by omega
      exact ⟨fun b => (hA b).done (by omega) (hC b) hle, fun h => absurd h hf,
        fun _ => ⟨by omega, fun b => (hC b).trans (cum_mono (wt_nonneg X b) hle)⟩⟩

theorem st_end (b : Fin 128) :
    Known (wt X b) (ent X b) (r (ix2 b 0)) 100000 ((St r tail blk grid0.N).idx (ix2 b 0)) ((St r tail blk grid0.N).lp (ix2 b 0)) := by
  have e : min (2048 * grid0.N) 100000 = 100000 := by decide
  have h := (st_known r H grid0.N (by decide)).1 b
  rwa [e] at h

end Points

section Whole
variable (m : (ℓ : Loc nD τ sig) → Buf (Elt Ideal) ℓ) (c : Dev nD)

/-- The program's two arguments on device `c`. -/
abbrev X0 : S128x100000.Idx → EReal := m ((c, Proc.tc.devRef main_arg0))
abbrev R0' : S128x1.Idx → EReal := m ((c, Proc.tc.devRef main_arg1))

theorem blkOf_at (XA : Buf (Elt Ideal) (aM.view.loc (c : Thread nD τ))) (k : ℕ) (hk : k < 48) (b : Fin 128) (q : Fin 2048) :
    blkOf c XA k (ix3 0 b q) = (show S128x100000.Idx → EReal from XA) (ix2 b ⟨2048 * k + q.val, by omega⟩) := by
  have hj : (Shape.reshapeEquiv squeezes_S1x128x2048_S128x2048.numel_eq).symm (ix3 0 b q) = ix2 b q := by
    rw [Equiv.symm_apply_eq]
    refine (Shape.reshapeEquiv_eq_of_rowMajor _ ?_).symm
    rw [Shape.rowMajor_val_three, Shape.rowMajor_val_two]
    show (0 * 128 + b.val) * 2048 + q.val = b.val * 2048 + q.val
    omega
  unfold blkOf payload
  rw [hj]
  show (show S128x100000.Idx → EReal from XA) _ = _
  congr 1
  funext a
  fin_cases a
  · exact Fin.ext (by show 0 + 1 * b.val = b.val; omega)
  · exact Fin.ext (by show 2048 * (Ring.bk 48 k).val + 1 * q.val = 2048 * k + q.val; rw [Ring.bk_val hk]; omega)

theorem V1_arg0 : V1 m c (Proc.devRef .tc main_arg0) = X0 m c := V1_of m c main_arg0 (by decide)
theorem V1_arg1 : V1 m c (Proc.devRef .tc main_arg1) = R0' m c := V1_of m c main_arg1 (by decide)
theorem V1_tail : V1 m c (Proc.devRef .tc main_v0) = extractStridedSlice S128x1696 ![0, 98304] (X0 m c) slices_S128x100000_S128x1696_0_98304 := by
  after_results

theorem reads (t : ℕ) (ht : t ≤ 48) : Reads (X0 m c) (tl (V1 m) c) (blkOf c (XA (V1 m) c) t) t where
  le := ht
  tail b q := by
    show V1 m c (Proc.devRef .tc main_v0) (ix2 b q) = _
    rw [V1_tail]
    pointwise
  blk h b q := by
    rw [blkOf_at c _ t h b q]
    exact congrFun (V1_arg0 m c) _

/-- What the scan leaves of row `b`. -/
theorem sn_known (b : Fin 128) :
    Known (wt (X0 m c) b) (ent (X0 m c) b) (R0' m c (ix2 b 0)) 100000 ((SN m c).idx (ix2 b 0)) ((SN m c).lp (ix2 b 0)) := by
  have h := st_end (rv (V1 m) c) (reads m c) b
  rw [show rv (V1 m) c = R0' m c from V1_arg1 m c] at h
  have e : SN m c = St (R0' m c) (tl (V1 m) c) (blkOf c (XA (V1 m) c)) grid0.N := by
    show St (rv (V1 m) c) _ _ _ = _
    rw [show rv (V1 m) c = R0' m c from V1_arg1 m c]
  rw [e]
  exact h

end Whole

end Cert.KernelIdeal.Own

end
-- ==== Proof.RefValue.lean ====
/-
  The reference's results at the real numbers, entry by entry: a row's samples are 1 at the first column whose running sum
  reaches the threshold and 0 elsewhere.
-/
module

public import proofs.«01_k».proof.Proof.ScanRead
public import proofs.«01_k».proof.Proof.Gen.ReferenceIdeal.Run
public import Idealize.ShloMosaic.Lib.Routing.OpsSet
public import Idealize.ShloMosaic.Lib.Routing.OpsPair

@[expose] public section

set_option maxRecDepth 16384

noncomputable section

namespace Cert.ReferenceIdeal.Own

open Cert.ReferenceIdeal Cert.ReferenceIdeal.Gen Cert.Row
open Cert.KernelIdeal.Own (ent wt wt_nonneg)
open Idealize.ShloMosaic

theorem foldl_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A window as long as the column, padded low by one less: entry `j` holds the sum of the column's entries up to `j`. -/
theorem cumsum_at {N B : ℕ} (d j : ℕ) (hN : N = d + (j + 1)) (x : (⟨2, ![N, B]⟩ : Shape).Idx → EReal) (f : ℕ → EReal) (b : Fin B)
    (hx : ∀ i : Fin N, x (ix2 i b) = f i.val) {lo : Fin 2 → ℕ} (hlo : lo = ![d + j, 0])
    (h : (⟨2, ![N, B]⟩ : Shape).ReduceWindows (![N, 1] : Fin 2 → ℕ) ![1, 1] lo ![0, 0] ⟨2, ![N, B]⟩) :
    Ideal.hostReduceWindowAdd ![N, 1] ![1, 1] lo ![0, 0] h x 0 (ix2 (⟨j, by omega⟩ : Fin N) b) = ∑ i ∈ Finset.range (j + 1), f i := by
  subst hlo
  have hnum : (⟨2, ![N, 1]⟩ : Shape).numel = N := by
    show ∏ a : Fin 2, (![N, 1] : Fin 2 → ℕ) a = N
    rw [Fin.prod_univ_two]
    exact Nat.mul_one N
  have hs : ∀ n : Fin (⟨2, ![N, 1]⟩ : Shape).numel, ((⟨2, ![N, 1]⟩ : Shape).rowMajor.symm n 0).val = n.val
      ∧ ((⟨2, ![N, 1]⟩ : Shape).rowMajor.symm n 1).val = 0 := fun n => by
    have e := congrArg Fin.val ((⟨2, ![N, 1]⟩ : Shape).rowMajor.apply_symm_apply n)
    rw [Shape.rowMajor_val_two] at e
    have l : ((⟨2, ![N, 1]⟩ : Shape).rowMajor.symm n 1).val < 1 := ((⟨2, ![N, 1]⟩ : Shape).rowMajor.symm n 1).isLt
    change ((⟨2, ![N, 1]⟩ : Shape).rowMajor.symm n 0).val * 1 + ((⟨2, ![N, 1]⟩ : Shape).rowMajor.symm n 1).val = n.val at e
    omega
  unfold Ideal.hostReduceWindowAdd Host.reduceWindow
  refine (foldl_sum _ _ _).trans ?_
  rw [zero_add, ← Fin.sum_univ_def]
  refine (Finset.sum_congr rfl fun n _ => ?_).trans
    (?_ : ∑ n : Fin (⟨2, ![N, 1]⟩ : Shape).numel, (if d ≤ n.val then f (n.val - d) else 0) = _)
  · have hn : n.val < N := (n.cast hnum).isLt
    obtain ⟨h0, h1⟩ := hs n
    have hb := b.isLt
    split
    · next hin =>
      have g0 := hin 0
      change d + j ≤ j * 1 + ((⟨2, ![N, 1]⟩ : Shape).rowMajor.symm n 0).val
        ∧ j * 1 + ((⟨2, ![N, 1]⟩ : Shape).rowMajor.symm n 0).val - (d + j) < N at g0
      rw [h0] at g0
      rw [if_pos (by omega)]
      refine (congrArg x (funext fun a => Fin.ext ?_)).trans (hx ⟨n.val - d, by omega⟩)
      match a with
      | ⟨0, _⟩ =>
        show j * 1 + ((⟨2, ![N, 1]⟩ : Shape).rowMajor.symm n 0).val - (d + j) = n.val - d
        rw [h0]; omega
      | ⟨1, _⟩ =>
        show b.val * 1 + ((⟨2, ![N, 1]⟩ : Shape).rowMajor.symm n 1).val - 0 = b.val
        rw [h1]; omega
    · next hin =>
      rw [if_neg fun hle => hin fun a => by
        match a with
        | ⟨0, _⟩ =>
          show d + j ≤ j * 1 + ((⟨2, ![N, 1]⟩ : Shape).rowMajor.symm n 0).val
            ∧ j * 1 + ((⟨2, ![N, 1]⟩ : Shape).rowMajor.symm n 0).val - (d + j) < N
          rw [h0]; omega
        | ⟨1, _⟩ =>
          show 0 ≤ b.val * 1 + ((⟨2, ![N, 1]⟩ : Shape).rowMajor.symm n 1).val
            ∧ b.val * 1 + ((⟨2, ![N, 1]⟩ : Shape).rowMajor.symm n 1).val - 0 < B
          rw [h1]; omega]
  · rw [Fin.sum_univ_eq_sum_range (fun n => if d ≤ n then f (n - d) else 0), hnum, hN, Finset.sum_range_add,
      Finset.sum_eq_zero fun n hn => if_neg (by have := Finset.mem_range.1 hn; omega), zero_add]
    exact Finset.sum_congr rfl fun n _ => by rw [if_pos (by omega), Nat.add_sub_cancel_left]

section Terms
variable (X : FVec Ideal S128x100000 .f32) (R : FVec Ideal S128x1 .f32)

/-- The entries by column, their running sums, and which have reached the threshold. -/
def entT : FVec Ideal S100000x128 .f32 := transpose S100000x128 [1, 0] X transposes_S128x100000_S100000x128_1_0
def sums : FVec Ideal S100000x128 .f32 :=
  Host.reduceWindowAdd ![100000, 1] ![1, 1] ![99999, 0] ![0, 0] (Host.exp (entT X)) (broadcastInDim S_ ![] bcast_S_S_ (constant S_ .f32 0x00000000#32)) reduceWindows_S100000x128_S100000x128_w100000s1p99999_0_w1s1p0_0 h_S_
def reached : IVec S100000x128 1 :=
  cmpf .oge (sums X) (broadcastInDim S100000x128 ![0, 1] bcast_S1x128_S100000x128_0_1 (transpose S1x128 [1, 0] R transposes_S128x1_S1x128_1_0))
/-- The columns from the second on that are reached where the one before is not, or the reverse. -/
def change : IVec S99999x128 1 :=
  xori (extractStridedSlice S99999x128 ![1, 0] (reached X R) slices_S100000x128_S99999x128_1_0) (extractStridedSlice S99999x128 ![0, 0] (reached X R) slices_S100000x128_S99999x128_0_0)
def samples : IVec S100000x128 1 :=
  Host.scatter scatter_S100000x128_S1_S99999x128_01_n_0_0 (fun _ b => b) (reached X R) (broadcastInDim S1 ![] bcast_S_S1 (constantI S_ 32 1#32)) (change X R)
def prods : FVec Ideal S100000x128 .f32 := mulf (uitofp .f32 (samples X R)) (entT X)
def out0 : FVec Ideal S128x100000 .f32 := Host.log (transpose S128x100000 [1, 0] (uitofp .f32 (samples X R)) transposes_S100000x128_S128x100000_1_0)
def out1 : FVec Ideal S128x1 .f32 :=
  Host.divf (transpose S128x1 [1, 0] (broadcastInDim S1x128 ![1] bcast_S128_S1x128_1 (Host.reduceAdd (select (cmpf .une (prods X R) (prods X R)) (broadcastInDim S100000x128 ![] bcast_S_S100000x128 (constant S_ .f32 0x00000000#32)) (prods X R)) (constant S_ .f32 0x00000000#32) reducesTo_S100000x128_S128_d0 h_S_)) transposes_S1x128_S128x1_1_0) (broadcastInDim S128x1 ![] bcast_S_S128x1 (constant S_ .f32 0x3F800000#32))

theorem sums_at (b : Fin 128) (j : Fin 100000) : sums X (ix2 j b) = cum (wt X b) (j.val + 1) := by
  have hj := j.isLt
  have hx : ∀ i : Fin 100000, (Host.exp (entT X) : FVec Ideal S100000x128 .f32) (ix2 i b) = wt X b i.val := fun i => by
    unfold wt ent
    rw [if_pos i.isLt, dif_pos i.isLt]
    pointwise [entT]
  have hinit : (broadcastInDim S_ ![] bcast_S_S_ (constant S_ .f32 0x00000000#32) : FVec Ideal S_ .f32) (Shape.Idx.first h_S_) = (0 : EReal) := by
    pointwise
  unfold sums Host.reduceWindowAdd
  rw [hinit]
  generalize (Host.exp (entT X) : FVec Ideal S100000x128 .f32) = x at hx ⊢
  exact cumsum_at (N := 100000) (B := 128) (99999 - j.val) j.val (by omega) x (wt X b) b hx (lo := ![99999, 0]) (by rw [show 99999 - j.val + j.val = 99999 by omega]) reduceWindows_S100000x128_S100000x128_w100000s1p99999_0_w1s1p0_0

theorem reached_at (b : Fin 128) (j : Fin 100000) : reached X R (ix2 j b) = BitVec.ofBool (decide (R (ix2 b 0) ≤ cum (wt X b) (j.val + 1))) := by
  have h := sums_at X b j
  pointwise [reached]
  rw [h]

theorem change_at (b : Fin 128) (j : Fin 99999) : change X R (ix2 j b)
    = IntOp.xori (reached X R (ix2 ⟨j.val + 1, by omega⟩ b)) (reached X R (ix2 ⟨j.val, by omega⟩ b)) := by
  pointwise [change]
  congr 2
  simp only [Nat.add_comm 1]

/-- Where an update lands: one row down, in its column. -/
theorem lands (k : S99999x128.Idx) (idx : IVec S1 32) (hidx : ∀ i, idx i = 1#32) (j : Fin 100000) (b : Fin 128) :
    scatter_S100000x128_S1_S99999x128_01_n_0_0.resultIdx? k idx = some (ix2 j b) ↔ (k 0).val + 1 = j.val ∧ (k 1).val = b.val := by
  rw [Routing.resultIdx?_eq_some]
  have s0 : scatter_S100000x128_S1_S99999x128_01_n_0_0.start k idx 0 = 1 := by
    unfold ScatterDims.start
    refine (dif_pos (show (0 : Fin 2) ∈ [(0 : Fin 2)] by decide)).trans ?_
    rw [hidx]
    decide
  have s1 : scatter_S100000x128_S1_S99999x128_01_n_0_0.start k idx 1 = 0 := by
    unfold ScatterDims.start
    exact dif_neg (show ¬ (1 : Fin 2) ∈ [(0 : Fin 2)] by decide)
  have w0 : scatter_S100000x128_S1_S99999x128_01_n_0_0.window k 0 = (k 0).val := rfl
  have w1 : scatter_S100000x128_S1_S99999x128_01_n_0_0.window k 1 = (k 1).val := rfl
  constructor
  · intro h
    have h0 := h 0
    have h1 := h 1
    rw [s0, w0] at h0
    rw [s1, w1] at h1
    change (1 : ℤ) + ((k 0).val : ℤ) = (j.val : ℤ) at h0
    change (0 : ℤ) + ((k 1).val : ℤ) = (b.val : ℤ) at h1
    omega
  · rintro ⟨h0, h1⟩ a
    match a with
    | ⟨0, _⟩ =>
      refine (congrArg₂ (fun (p : ℤ) (q : ℕ) => p + (q : ℤ)) s0 w0).trans ?_
      show (1 : ℤ) + ((k 0).val : ℤ) = (j.val : ℤ)
      omega
    | ⟨1, _⟩ =>
      refine (congrArg₂ (fun (p : ℤ) (q : ℕ) => p + (q : ℤ)) s1 w1).trans ?_
      show (0 : ℤ) + ((k 1).val : ℤ) = (b.val : ℤ)
      omega

theorem idx_one (i : S1.Idx) : (broadcastInDim S1 ![] bcast_S_S1 (constantI S_ 32 1#32) : IVec S1 32) i = 1#32 := rfl

open Classical in
theorem samples_at (b : Fin 128) (j : Fin 100000) :
    samples X R (ix2 j b) = BitVec.ofBool (decide (First (wt X b) (R (ix2 b 0)) 100000 j.val)) := by
  unfold samples
  have hj := j.isLt
  have mono := cum_mono (wt_nonneg X b)
  obtain h0 | ⟨i, hi⟩ : j.val = 0 ∨ ∃ i, j.val = i + 1 := by
    cases j.val with
    | zero => exact .inl rfl
    | succ i => exact .inr ⟨i, rfl⟩
  · rw [Routing.scatter_set_miss _ _ _ _ _ fun k h => by have := (lands k _ idx_one j b).1 h; omega, reached_at]
    congr 1
    refine decide_eq_decide.2 ⟨fun h => ⟨hj, h, fun i hi => by omega⟩, fun h => h.hit⟩
  · obtain ⟨i', hi'⟩ : ∃ i' : Fin 99999, i'.val = i := ⟨⟨i, by omega⟩, rfl⟩
    subst hi'
    rw [Routing.scatter_set_hit _ _ _ _ _ (change X R (ix2 i' b)) (fun k h => ?_) (ix2 i' b) ((lands _ _ idx_one j b).2 ⟨hi.symm, rfl⟩)]
    · rw [change_at, reached_at, reached_at]
      dsimp only
      by_cases h2 : R (ix2 b 0) ≤ cum (wt X b) (i'.val + 1)
      · have h1 := h2.trans (mono (Nat.le_succ (i'.val + 1)))
        rw [decide_eq_true h1, decide_eq_true h2, decide_eq_false fun h => absurd h2 (not_le.mpr (h.below i'.val (by omega)))]
        rfl
      · by_cases h1 : R (ix2 b 0) ≤ cum (wt X b) (i'.val + 1 + 1)
        · rw [decide_eq_true h1, decide_eq_false h2, decide_eq_true ⟨hj, hi ▸ h1, fun q hq => lt_of_le_of_lt (mono (by omega)) (not_le.mp h2)⟩]
          rfl
        · rw [decide_eq_false h1, decide_eq_false h2, decide_eq_false fun h => h1 (hi ▸ h.hit)]
          rfl
    · have h := (lands k _ idx_one j b).1 h
      have e : k = ix2 i' b := funext fun a => by
        match a with
        | ⟨0, _⟩ => exact Fin.ext (by show (k 0).val = i'.val; omega)
        | ⟨1, _⟩ => exact Fin.ext h.2
      exact congrArg (change X R) e

theorem log_one : Ideal.log (1 : EReal) = 0 := by
  rw [show (1 : EReal) = ((1 : ℝ) : EReal) from rfl, Ideal.log_coe, if_neg (by norm_num), Real.log_one]
  rfl
theorem log_zero : Ideal.log (0 : EReal) = ⊥ := by
  rw [show (0 : EReal) = ((0 : ℝ) : EReal) from rfl, Ideal.log_coe, if_pos le_rfl]
theorem ideal_div_one (x : EReal) : Ideal.div x 1 = x := by
  unfold Ideal.div
  rw [if_neg one_ne_zero, show ((1 : EReal))⁻¹ = 1 from inv_one, mul_one]

theorem uitofp_bit (p : Bool) : FloatOps.uitofp (F := Ideal) .f32 (BitVec.ofBool p) = if p = true then (1 : EReal) else 0 := by
  show (((BitVec.ofBool p).toNat : ℝ) : EReal) = _
  cases p <;> simp

open Classical in
theorem out0_at (b : Fin 128) (j : Fin 100000) :
    out0 X R (ix2 b j) = if First (wt X b) (R (ix2 b 0)) 100000 j.val then (0 : EReal) else ⊥ := by
  have h := samples_at X R b j
  pointwise [out0]
  rw [h, uitofp_bit]
  by_cases hF : First (wt X b) (R (ix2 b 0)) 100000 j.val
  · rw [decide_eq_true hF, if_pos hF, if_pos rfl]
    exact log_one
  · rw [decide_eq_false hF, if_neg hF, if_neg (by decide)]
    exact log_zero

open Classical in
theorem prods_at (b : Fin 128) (j : Fin 100000) :
    prods X R (ix2 j b) = if First (wt X b) (R (ix2 b 0)) 100000 j.val then ent X b j.val else 0 := by
  have h := samples_at X R b j
  have hx : ent X b j.val = X (ix2 b j) := dif_pos j.isLt
  pointwise [prods, entT]
  rw [h, uitofp_bit, hx]
  by_cases hF : First (wt X b) (R (ix2 b 0)) 100000 j.val
  · rw [decide_eq_true hF, if_pos hF, if_pos rfl]
    exact one_mul _
  · rw [decide_eq_false hF, if_neg hF, if_neg (by decide)]
    exact zero_mul _

open Classical in
theorem out1_at (b : Fin 128) :
    out1 X R (ix2 b 0) = ∑ j : Fin 100000, if First (wt X b) (R (ix2 b 0)) 100000 j.val then ent X b j.val else 0 := by
  have h := fun j => prods_at X R b j
  pointwise [out1]
  rw [Finset.sum_congr rfl fun j _ => (if_neg (not_not.2 rfl)).trans (h j)]
  exact ideal_div_one _

end Terms

end Cert.ReferenceIdeal.Own

end
-- ==== Proof.Algebraic.lean ====
/-
  The kernel's two results are the reference's, at the real numbers, whatever the arguments.
-/
module

public import proofs.«01_k».proof.Defs
public import proofs.«01_k».proof.Proof.ScanValue
public import proofs.«01_k».proof.Proof.RefValue

@[expose] public section

set_option maxRecDepth 16384

noncomputable section

namespace Cert.Proof

open Idealize.ShloMosaic Idealize.ShloMosaic.TcCoe Idealize.SL.Sem
open Cert.KernelIdeal.Own (ent wt SN X0 R0' sn_known fillOf)
open Cert.Row

theorem bot_bits : Ideal.ofBits .f32 0xFF800000#32 = ⊥ := by
  simp [Ideal.ofBits, Ideal.ieee]

/-- The reference's results are its terms over the kernel's arguments. -/
theorem ref_args (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Own.out0 (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
      = Cert.ReferenceIdeal.Own.out0 (X0 m c) (R0' m c)
    ∧ Cert.ReferenceIdeal.Own.out1 (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
      = Cert.ReferenceIdeal.Own.out1 (X0 m c) (R0' m c) := by
  rw [h.1, h.2]
  exact ⟨rfl, rfl⟩

section Values
variable (m : (ℓ : Loc Cert.KernelIdeal.nD Cert.KernelIdeal.τ Cert.KernelIdeal.sig) → Buf (Elt Ideal) ℓ) (c : Dev Cert.KernelIdeal.nD)

theorem fill_eq : fillOf (F := Ideal) (SN m c).idx = Cert.ReferenceIdeal.Own.out0 (X0 m c) (R0' m c) := by
  funext i
  obtain ⟨b, j, rfl⟩ : ∃ (b : Fin 128) (j : Fin 100000), i = ix2 b j := ⟨_, _, (ix2_eta i).symm⟩
  rw [Cert.ReferenceIdeal.Own.out0_at]
  have h := (sn_known m c b).idx_iff j.isLt
  generalize (SN m c).idx = p at h ⊢
  show Scalar.select (BitVec.ofBool (BitVec.ofNat 32 j.val == p (ix2 b 0))) (Ideal.ofBits .f32 0x00000000#32) (Ideal.ofBits .f32 0xFF800000#32) = _
  by_cases hF : First (wt (X0 m c) b) (R0' m c (ix2 b 0)) 100000 j.val
  · rw [if_pos hF, beq_iff_eq.2 (h.2 hF)]
    exact Ideal.ofBits_zero_f32
  · rw [if_neg hF, beq_eq_false_iff_ne.2 fun e => hF (h.1 e)]
    exact bot_bits

theorem entry_eq : (SN m c).lp = Cert.ReferenceIdeal.Own.out1 (X0 m c) (R0' m c) := by
  funext i
  obtain ⟨b, z, rfl⟩ : ∃ (b : Fin 128) (z : Fin 1), i = ix2 b z := ⟨_, _, (ix2_eta i).symm⟩
  obtain rfl : z = 0 := Subsingleton.elim _ _
  rw [Cert.ReferenceIdeal.Own.out1_at]
  exact (sn_known m c b).entry

end Values

theorem algebraic : Cert.algebraic_KernelIdeal_ReferenceIdeal := fun m g m' g' _ hargs =>
  ⟨fun c => Cert.ReferenceIdeal.Own.out0 (X0 m c) (R0' m c), fun c => Cert.ReferenceIdeal.Own.out1 (X0 m c) (R0' m c),
    (θ_run Cert.KernelIdeal.defs _ _).mono (fun _ h c => ⟨(h.1 c).1.trans (fill_eq m c), (h.1 c).2.1.trans (entry_eq m c), (h.1 c).2.2.1, (h.1 c).2.2.2⟩)
      (Cert.KernelIdeal.Own.run (F := Ideal) m g),
    (θ_run Cert.ReferenceIdeal.defs _ _).mono (fun _ h c => ⟨(h c).1.trans (ref_args m m' c (hargs c)).1, (h c).2.1.trans (ref_args m m' c (hargs c)).2, (h c).2.2.1, (h c).2.2.2⟩)
      (Cert.ReferenceIdeal.Value.run (F := Ideal) m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
